-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2 = (fun _ => 1#1)

def Pre_OutFF (m : (ℓ : Loc Cert.OutFF.nD Cert.OutFF.τ Cert.OutFF.sig) → Buf (Elt Bits) ℓ) : Prop :=
  True

def Pre_OutFFIdeal (m : (ℓ : Loc Cert.OutFFIdeal.nD Cert.OutFFIdeal.τ Cert.OutFFIdeal.sig) → Buf (Elt Ideal) ℓ) : Prop :=
  True

def Pre_OutFFRefIdeal (m : (ℓ : Loc Cert.OutFFRefIdeal.nD Cert.OutFFRefIdeal.τ Cert.OutFFRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_OutFF [hOutFF : Cert.OutFF.Facts] : Prop :=
  ∀ (m : (ℓ : Loc Cert.OutFF.nD Cert.OutFF.τ Cert.OutFF.sig) → Buf (Elt Bits) ℓ) (g : Dev Cert.OutFF.nD → PrngReg), Pre_OutFF m →
    θ_run (Cert.OutFF.defs (F := Bits)) (onTc (τ := Cert.OutFF.τ) (Cert.OutFF.main (F := Bits))) ⟨m, fun _ => 0, g⟩ (fun r => (∀ c : Dev Cert.OutFF.nD,
      r.2.mem ((c.tc : Thread Cert.OutFF.nD Cert.OutFF.τ).loc Cert.OutFF.main_arg0) = m ((c.tc : Thread Cert.OutFF.nD Cert.OutFF.τ).loc Cert.OutFF.main_arg0)
      ∧ r.2.mem ((c.tc : Thread Cert.OutFF.nD Cert.OutFF.τ).loc Cert.OutFF.main_arg1) = m ((c.tc : Thread Cert.OutFF.nD Cert.OutFF.τ).loc Cert.OutFF.main_arg1)
      ∧ r.2.mem ((c.tc : Thread Cert.OutFF.nD Cert.OutFF.τ).loc Cert.OutFF.main_arg2) = m ((c.tc : Thread Cert.OutFF.nD Cert.OutFF.τ).loc Cert.OutFF.main_arg2)
      ∧ r.2.mem ((c.tc : Thread Cert.OutFF.nD Cert.OutFF.τ).loc Cert.OutFF.main_arg3) = m ((c.tc : Thread Cert.OutFF.nD Cert.OutFF.τ).loc Cert.OutFF.main_arg3)
      ∧ r.2.mem ((c.tc : Thread Cert.OutFF.nD Cert.OutFF.τ).loc Cert.OutFF.main_arg4) = m ((c.tc : Thread Cert.OutFF.nD Cert.OutFF.τ).loc Cert.OutFF.main_arg4)
      ∧ r.2.mem ((c.tc : Thread Cert.OutFF.nD Cert.OutFF.τ).loc Cert.OutFF.main_arg5) = m ((c.tc : Thread Cert.OutFF.nD Cert.OutFF.τ).loc Cert.OutFF.main_arg5)
      ∧ r.2.mem ((c.tc : Thread Cert.OutFF.nD Cert.OutFF.τ).loc Cert.OutFF.main_arg6) = m ((c.tc : Thread Cert.OutFF.nD Cert.OutFF.τ).loc Cert.OutFF.main_arg6)
      ∧ r.2.mem ((c.tc : Thread Cert.OutFF.nD Cert.OutFF.τ).loc Cert.OutFF.main_arg7) = m ((c.tc : Thread Cert.OutFF.nD Cert.OutFF.τ).loc Cert.OutFF.main_arg7)
      ∧ r.2.mem ((c.tc : Thread Cert.OutFF.nD Cert.OutFF.τ).loc Cert.OutFF.main_arg8) = m ((c.tc : Thread Cert.OutFF.nD Cert.OutFF.τ).loc Cert.OutFF.main_arg8)
      ∧ r.2.mem ((c.tc : Thread Cert.OutFF.nD Cert.OutFF.τ).loc Cert.OutFF.main_arg9) = m ((c.tc : Thread Cert.OutFF.nD Cert.OutFF.τ).loc Cert.OutFF.main_arg9)
      ∧ r.2.mem ((c.tc : Thread Cert.OutFF.nD Cert.OutFF.τ).loc Cert.OutFF.main_arg10) = m ((c.tc : Thread Cert.OutFF.nD Cert.OutFF.τ).loc Cert.OutFF.main_arg10)
      ∧ r.2.mem ((c.tc : Thread Cert.OutFF.nD Cert.OutFF.τ).loc Cert.OutFF.main_arg11) = m ((c.tc : Thread Cert.OutFF.nD Cert.OutFF.τ).loc Cert.OutFF.main_arg11))
      ∧ r.2.sem = fun _ => 0)

def quiescent_OutFFIdeal [hOutFFIdeal : Cert.OutFFIdeal.Facts] : Prop :=
  ∀ (m : (ℓ : Loc Cert.OutFFIdeal.nD Cert.OutFFIdeal.τ Cert.OutFFIdeal.sig) → Buf (Elt Ideal) ℓ) (g : Dev Cert.OutFFIdeal.nD → PrngReg), Pre_OutFFIdeal m →
    θ_run (Cert.OutFFIdeal.defs (F := Ideal)) (onTc (τ := Cert.OutFFIdeal.τ) (Cert.OutFFIdeal.main (F := Ideal))) ⟨m, fun _ => 0, g⟩ (fun r => (∀ c : Dev Cert.OutFFIdeal.nD,
      r.2.mem ((c.tc : Thread Cert.OutFFIdeal.nD Cert.OutFFIdeal.τ).loc Cert.OutFFIdeal.main_arg0) = m ((c.tc : Thread Cert.OutFFIdeal.nD Cert.OutFFIdeal.τ).loc Cert.OutFFIdeal.main_arg0)
      ∧ r.2.mem ((c.tc : Thread Cert.OutFFIdeal.nD Cert.OutFFIdeal.τ).loc Cert.OutFFIdeal.main_arg1) = m ((c.tc : Thread Cert.OutFFIdeal.nD Cert.OutFFIdeal.τ).loc Cert.OutFFIdeal.main_arg1)
      ∧ r.2.mem ((c.tc : Thread Cert.OutFFIdeal.nD Cert.OutFFIdeal.τ).loc Cert.OutFFIdeal.main_arg2) = m ((c.tc : Thread Cert.OutFFIdeal.nD Cert.OutFFIdeal.τ).loc Cert.OutFFIdeal.main_arg2)
      ∧ r.2.mem ((c.tc : Thread Cert.OutFFIdeal.nD Cert.OutFFIdeal.τ).loc Cert.OutFFIdeal.main_arg3) = m ((c.tc : Thread Cert.OutFFIdeal.nD Cert.OutFFIdeal.τ).loc Cert.OutFFIdeal.main_arg3)
      ∧ r.2.mem ((c.tc : Thread Cert.OutFFIdeal.nD Cert.OutFFIdeal.τ).loc Cert.OutFFIdeal.main_arg4) = m ((c.tc : Thread Cert.OutFFIdeal.nD Cert.OutFFIdeal.τ).loc Cert.OutFFIdeal.main_arg4)
      ∧ r.2.mem ((c.tc : Thread Cert.OutFFIdeal.nD Cert.OutFFIdeal.τ).loc Cert.OutFFIdeal.main_arg5) = m ((c.tc : Thread Cert.OutFFIdeal.nD Cert.OutFFIdeal.τ).loc Cert.OutFFIdeal.main_arg5)
      ∧ r.2.mem ((c.tc : Thread Cert.OutFFIdeal.nD Cert.OutFFIdeal.τ).loc Cert.OutFFIdeal.main_arg6) = m ((c.tc : Thread Cert.OutFFIdeal.nD Cert.OutFFIdeal.τ).loc Cert.OutFFIdeal.main_arg6)
      ∧ r.2.mem ((c.tc : Thread Cert.OutFFIdeal.nD Cert.OutFFIdeal.τ).loc Cert.OutFFIdeal.main_arg7) = m ((c.tc : Thread Cert.OutFFIdeal.nD Cert.OutFFIdeal.τ).loc Cert.OutFFIdeal.main_arg7)
      ∧ r.2.mem ((c.tc : Thread Cert.OutFFIdeal.nD Cert.OutFFIdeal.τ).loc Cert.OutFFIdeal.main_arg8) = m ((c.tc : Thread Cert.OutFFIdeal.nD Cert.OutFFIdeal.τ).loc Cert.OutFFIdeal.main_arg8)
      ∧ r.2.mem ((c.tc : Thread Cert.OutFFIdeal.nD Cert.OutFFIdeal.τ).loc Cert.OutFFIdeal.main_arg9) = m ((c.tc : Thread Cert.OutFFIdeal.nD Cert.OutFFIdeal.τ).loc Cert.OutFFIdeal.main_arg9)
      ∧ r.2.mem ((c.tc : Thread Cert.OutFFIdeal.nD Cert.OutFFIdeal.τ).loc Cert.OutFFIdeal.main_arg10) = m ((c.tc : Thread Cert.OutFFIdeal.nD Cert.OutFFIdeal.τ).loc Cert.OutFFIdeal.main_arg10)
      ∧ r.2.mem ((c.tc : Thread Cert.OutFFIdeal.nD Cert.OutFFIdeal.τ).loc Cert.OutFFIdeal.main_arg11) = m ((c.tc : Thread Cert.OutFFIdeal.nD Cert.OutFFIdeal.τ).loc Cert.OutFFIdeal.main_arg11))
      ∧ r.2.sem = fun _ => 0)

def quiescent_OutFFRefIdeal [hOutFFRefIdeal : Cert.OutFFRefIdeal.Facts] : Prop :=
  ∀ (m : (ℓ : Loc Cert.OutFFRefIdeal.nD Cert.OutFFRefIdeal.τ Cert.OutFFRefIdeal.sig) → Buf (Elt Ideal) ℓ) (g : Dev Cert.OutFFRefIdeal.nD → PrngReg), Pre_OutFFRefIdeal m →
    θ_run (Cert.OutFFRefIdeal.defs (F := Ideal)) (onTc (τ := Cert.OutFFRefIdeal.τ) (Cert.OutFFRefIdeal.main (F := Ideal))) ⟨m, fun _ => 0, g⟩ (fun r => (∀ c : Dev Cert.OutFFRefIdeal.nD,
      r.2.mem ((c.tc : Thread Cert.OutFFRefIdeal.nD Cert.OutFFRefIdeal.τ).loc Cert.OutFFRefIdeal.main_arg0) = m ((c.tc : Thread Cert.OutFFRefIdeal.nD Cert.OutFFRefIdeal.τ).loc Cert.OutFFRefIdeal.main_arg0)
      ∧ r.2.mem ((c.tc : Thread Cert.OutFFRefIdeal.nD Cert.OutFFRefIdeal.τ).loc Cert.OutFFRefIdeal.main_arg1) = m ((c.tc : Thread Cert.OutFFRefIdeal.nD Cert.OutFFRefIdeal.τ).loc Cert.OutFFRefIdeal.main_arg1)
      ∧ r.2.mem ((c.tc : Thread Cert.OutFFRefIdeal.nD Cert.OutFFRefIdeal.τ).loc Cert.OutFFRefIdeal.main_arg2) = m ((c.tc : Thread Cert.OutFFRefIdeal.nD Cert.OutFFRefIdeal.τ).loc Cert.OutFFRefIdeal.main_arg2)
      ∧ r.2.mem ((c.tc : Thread Cert.OutFFRefIdeal.nD Cert.OutFFRefIdeal.τ).loc Cert.OutFFRefIdeal.main_arg3) = m ((c.tc : Thread Cert.OutFFRefIdeal.nD Cert.OutFFRefIdeal.τ).loc Cert.OutFFRefIdeal.main_arg3)
      ∧ r.2.mem ((c.tc : Thread Cert.OutFFRefIdeal.nD Cert.OutFFRefIdeal.τ).loc Cert.OutFFRefIdeal.main_arg4) = m ((c.tc : Thread Cert.OutFFRefIdeal.nD Cert.OutFFRefIdeal.τ).loc Cert.OutFFRefIdeal.main_arg4)
      ∧ r.2.mem ((c.tc : Thread Cert.OutFFRefIdeal.nD Cert.OutFFRefIdeal.τ).loc Cert.OutFFRefIdeal.main_arg5) = m ((c.tc : Thread Cert.OutFFRefIdeal.nD Cert.OutFFRefIdeal.τ).loc Cert.OutFFRefIdeal.main_arg5)
      ∧ r.2.mem ((c.tc : Thread Cert.OutFFRefIdeal.nD Cert.OutFFRefIdeal.τ).loc Cert.OutFFRefIdeal.main_arg6) = m ((c.tc : Thread Cert.OutFFRefIdeal.nD Cert.OutFFRefIdeal.τ).loc Cert.OutFFRefIdeal.main_arg6)
      ∧ r.2.mem ((c.tc : Thread Cert.OutFFRefIdeal.nD Cert.OutFFRefIdeal.τ).loc Cert.OutFFRefIdeal.main_arg7) = m ((c.tc : Thread Cert.OutFFRefIdeal.nD Cert.OutFFRefIdeal.τ).loc Cert.OutFFRefIdeal.main_arg7)
      ∧ r.2.mem ((c.tc : Thread Cert.OutFFRefIdeal.nD Cert.OutFFRefIdeal.τ).loc Cert.OutFFRefIdeal.main_arg8) = m ((c.tc : Thread Cert.OutFFRefIdeal.nD Cert.OutFFRefIdeal.τ).loc Cert.OutFFRefIdeal.main_arg8)
      ∧ r.2.mem ((c.tc : Thread Cert.OutFFRefIdeal.nD Cert.OutFFRefIdeal.τ).loc Cert.OutFFRefIdeal.main_arg9) = m ((c.tc : Thread Cert.OutFFRefIdeal.nD Cert.OutFFRefIdeal.τ).loc Cert.OutFFRefIdeal.main_arg9)
      ∧ r.2.mem ((c.tc : Thread Cert.OutFFRefIdeal.nD Cert.OutFFRefIdeal.τ).loc Cert.OutFFRefIdeal.main_arg10) = m ((c.tc : Thread Cert.OutFFRefIdeal.nD Cert.OutFFRefIdeal.τ).loc Cert.OutFFRefIdeal.main_arg10)
      ∧ r.2.mem ((c.tc : Thread Cert.OutFFRefIdeal.nD Cert.OutFFRefIdeal.τ).loc Cert.OutFFRefIdeal.main_arg11) = m ((c.tc : Thread Cert.OutFFRefIdeal.nD Cert.OutFFRefIdeal.τ).loc Cert.OutFFRefIdeal.main_arg11))
      ∧ r.2.sem = fun _ => 0)

def preserves_Attn_AttnIdeal : Prop :=
  IdealRules.named_const.Statement Cert.AttnIdeal.κ "scale" .f32 0x3E38AA3B#32 (((1 / 8) * (Real.log 2)⁻¹ : ℝ) : EReal)
  ∧ IdealRules.named_const.Statement Cert.AttnIdeal.κ "mask" .f32 0xF149F2CA#32 ⊥
  ∧ IdealRules.named_const.Statement Cert.AttnIdeal.κ "log2e" .f32 0x3FB8AA3B#32 (((Real.log 2)⁻¹ : ℝ) : EReal)

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v26)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v26) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v85) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_OutFF_OutFFIdeal : Prop :=
  True

def algebraic_OutFFIdeal_OutFFRefIdeal [hOutFFIdeal : Cert.OutFFIdeal.Facts] [hOutFFRefIdeal : Cert.OutFFRefIdeal.Facts] : Prop :=
  ∀ (m : (ℓ : Loc Cert.OutFFIdeal.nD Cert.OutFFIdeal.τ Cert.OutFFIdeal.sig) → Buf (Elt Ideal) ℓ) (g : Dev Cert.OutFFIdeal.nD → PrngReg)
    (m' : (ℓ : Loc Cert.OutFFRefIdeal.nD Cert.OutFFRefIdeal.τ Cert.OutFFRefIdeal.sig) → Buf (Elt Ideal) ℓ) (g' : Dev Cert.OutFFRefIdeal.nD → PrngReg), Pre_OutFFIdeal m →
    (∀ c : Dev Cert.OutFFIdeal.nD,
      m' ((c.tc : Thread Cert.OutFFRefIdeal.nD Cert.OutFFRefIdeal.τ).loc Cert.OutFFRefIdeal.main_arg0) = m ((c.tc : Thread Cert.OutFFIdeal.nD Cert.OutFFIdeal.τ).loc Cert.OutFFIdeal.main_arg0)
      ∧ m' ((c.tc : Thread Cert.OutFFRefIdeal.nD Cert.OutFFRefIdeal.τ).loc Cert.OutFFRefIdeal.main_arg1) = m ((c.tc : Thread Cert.OutFFIdeal.nD Cert.OutFFIdeal.τ).loc Cert.OutFFIdeal.main_arg1)
      ∧ m' ((c.tc : Thread Cert.OutFFRefIdeal.nD Cert.OutFFRefIdeal.τ).loc Cert.OutFFRefIdeal.main_arg2) = m ((c.tc : Thread Cert.OutFFIdeal.nD Cert.OutFFIdeal.τ).loc Cert.OutFFIdeal.main_arg2)
      ∧ m' ((c.tc : Thread Cert.OutFFRefIdeal.nD Cert.OutFFRefIdeal.τ).loc Cert.OutFFRefIdeal.main_arg3) = m ((c.tc : Thread Cert.OutFFIdeal.nD Cert.OutFFIdeal.τ).loc Cert.OutFFIdeal.main_arg3)
      ∧ m' ((c.tc : Thread Cert.OutFFRefIdeal.nD Cert.OutFFRefIdeal.τ).loc Cert.OutFFRefIdeal.main_arg4) = m ((c.tc : Thread Cert.OutFFIdeal.nD Cert.OutFFIdeal.τ).loc Cert.OutFFIdeal.main_arg4)
      ∧ m' ((c.tc : Thread Cert.OutFFRefIdeal.nD Cert.OutFFRefIdeal.τ).loc Cert.OutFFRefIdeal.main_arg5) = m ((c.tc : Thread Cert.OutFFIdeal.nD Cert.OutFFIdeal.τ).loc Cert.OutFFIdeal.main_arg5)
      ∧ m' ((c.tc : Thread Cert.OutFFRefIdeal.nD Cert.OutFFRefIdeal.τ).loc Cert.OutFFRefIdeal.main_arg6) = m ((c.tc : Thread Cert.OutFFIdeal.nD Cert.OutFFIdeal.τ).loc Cert.OutFFIdeal.main_arg6)
      ∧ m' ((c.tc : Thread Cert.OutFFRefIdeal.nD Cert.OutFFRefIdeal.τ).loc Cert.OutFFRefIdeal.main_arg7) = m ((c.tc : Thread Cert.OutFFIdeal.nD Cert.OutFFIdeal.τ).loc Cert.OutFFIdeal.main_arg7)
      ∧ m' ((c.tc : Thread Cert.OutFFRefIdeal.nD Cert.OutFFRefIdeal.τ).loc Cert.OutFFRefIdeal.main_arg8) = m ((c.tc : Thread Cert.OutFFIdeal.nD Cert.OutFFIdeal.τ).loc Cert.OutFFIdeal.main_arg8)
      ∧ m' ((c.tc : Thread Cert.OutFFRefIdeal.nD Cert.OutFFRefIdeal.τ).loc Cert.OutFFRefIdeal.main_arg9) = m ((c.tc : Thread Cert.OutFFIdeal.nD Cert.OutFFIdeal.τ).loc Cert.OutFFIdeal.main_arg9)
      ∧ m' ((c.tc : Thread Cert.OutFFRefIdeal.nD Cert.OutFFRefIdeal.τ).loc Cert.OutFFRefIdeal.main_arg10) = m ((c.tc : Thread Cert.OutFFIdeal.nD Cert.OutFFIdeal.τ).loc Cert.OutFFIdeal.main_arg10)
      ∧ m' ((c.tc : Thread Cert.OutFFRefIdeal.nD Cert.OutFFRefIdeal.τ).loc Cert.OutFFRefIdeal.main_arg11) = m ((c.tc : Thread Cert.OutFFIdeal.nD Cert.OutFFIdeal.τ).loc Cert.OutFFIdeal.main_arg11)) →
    ∃ (v0 : (c : Dev Cert.OutFFIdeal.nD) → Buf (Elt Ideal) ((c.tc : Thread Cert.OutFFIdeal.nD Cert.OutFFIdeal.τ).loc Cert.OutFFIdeal.main_v23)),
      θ_run (Cert.OutFFIdeal.defs (F := Ideal)) (onTc (τ := Cert.OutFFIdeal.τ) (Cert.OutFFIdeal.main (F := Ideal))) ⟨m, fun _ => 0, g⟩ (fun r => ∀ c : Dev Cert.OutFFIdeal.nD,
          r.2.mem ((c.tc : Thread Cert.OutFFIdeal.nD Cert.OutFFIdeal.τ).loc Cert.OutFFIdeal.main_v23) = v0 c
          ∧ r.2.mem ((c.tc : Thread Cert.OutFFIdeal.nD Cert.OutFFIdeal.τ).loc Cert.OutFFIdeal.main_arg0) = m ((c.tc : Thread Cert.OutFFIdeal.nD Cert.OutFFIdeal.τ).loc Cert.OutFFIdeal.main_arg0)
          ∧ r.2.mem ((c.tc : Thread Cert.OutFFIdeal.nD Cert.OutFFIdeal.τ).loc Cert.OutFFIdeal.main_arg1) = m ((c.tc : Thread Cert.OutFFIdeal.nD Cert.OutFFIdeal.τ).loc Cert.OutFFIdeal.main_arg1)
          ∧ r.2.mem ((c.tc : Thread Cert.OutFFIdeal.nD Cert.OutFFIdeal.τ).loc Cert.OutFFIdeal.main_arg2) = m ((c.tc : Thread Cert.OutFFIdeal.nD Cert.OutFFIdeal.τ).loc Cert.OutFFIdeal.main_arg2)
          ∧ r.2.mem ((c.tc : Thread Cert.OutFFIdeal.nD Cert.OutFFIdeal.τ).loc Cert.OutFFIdeal.main_arg3) = m ((c.tc : Thread Cert.OutFFIdeal.nD Cert.OutFFIdeal.τ).loc Cert.OutFFIdeal.main_arg3)
          ∧ r.2.mem ((c.tc : Thread Cert.OutFFIdeal.nD Cert.OutFFIdeal.τ).loc Cert.OutFFIdeal.main_arg4) = m ((c.tc : Thread Cert.OutFFIdeal.nD Cert.OutFFIdeal.τ).loc Cert.OutFFIdeal.main_arg4)
          ∧ r.2.mem ((c.tc : Thread Cert.OutFFIdeal.nD Cert.OutFFIdeal.τ).loc Cert.OutFFIdeal.main_arg5) = m ((c.tc : Thread Cert.OutFFIdeal.nD Cert.OutFFIdeal.τ).loc Cert.OutFFIdeal.main_arg5)
          ∧ r.2.mem ((c.tc : Thread Cert.OutFFIdeal.nD Cert.OutFFIdeal.τ).loc Cert.OutFFIdeal.main_arg6) = m ((c.tc : Thread Cert.OutFFIdeal.nD Cert.OutFFIdeal.τ).loc Cert.OutFFIdeal.main_arg6)
          ∧ r.2.mem ((c.tc : Thread Cert.OutFFIdeal.nD Cert.OutFFIdeal.τ).loc Cert.OutFFIdeal.main_arg7) = m ((c.tc : Thread Cert.OutFFIdeal.nD Cert.OutFFIdeal.τ).loc Cert.OutFFIdeal.main_arg7)
          ∧ r.2.mem ((c.tc : Thread Cert.OutFFIdeal.nD Cert.OutFFIdeal.τ).loc Cert.OutFFIdeal.main_arg8) = m ((c.tc : Thread Cert.OutFFIdeal.nD Cert.OutFFIdeal.τ).loc Cert.OutFFIdeal.main_arg8)
          ∧ r.2.mem ((c.tc : Thread Cert.OutFFIdeal.nD Cert.OutFFIdeal.τ).loc Cert.OutFFIdeal.main_arg9) = m ((c.tc : Thread Cert.OutFFIdeal.nD Cert.OutFFIdeal.τ).loc Cert.OutFFIdeal.main_arg9)
          ∧ r.2.mem ((c.tc : Thread Cert.OutFFIdeal.nD Cert.OutFFIdeal.τ).loc Cert.OutFFIdeal.main_arg10) = m ((c.tc : Thread Cert.OutFFIdeal.nD Cert.OutFFIdeal.τ).loc Cert.OutFFIdeal.main_arg10)
          ∧ r.2.mem ((c.tc : Thread Cert.OutFFIdeal.nD Cert.OutFFIdeal.τ).loc Cert.OutFFIdeal.main_arg11) = m ((c.tc : Thread Cert.OutFFIdeal.nD Cert.OutFFIdeal.τ).loc Cert.OutFFIdeal.main_arg11))
      ∧ θ_run (Cert.OutFFRefIdeal.defs (F := Ideal)) (onTc (τ := Cert.OutFFRefIdeal.τ) (Cert.OutFFRefIdeal.main (F := Ideal))) ⟨m', fun _ => 0, g'⟩ (fun r => ∀ c : Dev Cert.OutFFRefIdeal.nD,
          r.2.mem ((c.tc : Thread Cert.OutFFRefIdeal.nD Cert.OutFFRefIdeal.τ).loc Cert.OutFFRefIdeal.main_v110) = v0 c
          ∧ r.2.mem ((c.tc : Thread Cert.OutFFRefIdeal.nD Cert.OutFFRefIdeal.τ).loc Cert.OutFFRefIdeal.main_arg0) = m' ((c.tc : Thread Cert.OutFFRefIdeal.nD Cert.OutFFRefIdeal.τ).loc Cert.OutFFRefIdeal.main_arg0)
          ∧ r.2.mem ((c.tc : Thread Cert.OutFFRefIdeal.nD Cert.OutFFRefIdeal.τ).loc Cert.OutFFRefIdeal.main_arg1) = m' ((c.tc : Thread Cert.OutFFRefIdeal.nD Cert.OutFFRefIdeal.τ).loc Cert.OutFFRefIdeal.main_arg1)
          ∧ r.2.mem ((c.tc : Thread Cert.OutFFRefIdeal.nD Cert.OutFFRefIdeal.τ).loc Cert.OutFFRefIdeal.main_arg2) = m' ((c.tc : Thread Cert.OutFFRefIdeal.nD Cert.OutFFRefIdeal.τ).loc Cert.OutFFRefIdeal.main_arg2)
          ∧ r.2.mem ((c.tc : Thread Cert.OutFFRefIdeal.nD Cert.OutFFRefIdeal.τ).loc Cert.OutFFRefIdeal.main_arg3) = m' ((c.tc : Thread Cert.OutFFRefIdeal.nD Cert.OutFFRefIdeal.τ).loc Cert.OutFFRefIdeal.main_arg3)
          ∧ r.2.mem ((c.tc : Thread Cert.OutFFRefIdeal.nD Cert.OutFFRefIdeal.τ).loc Cert.OutFFRefIdeal.main_arg4) = m' ((c.tc : Thread Cert.OutFFRefIdeal.nD Cert.OutFFRefIdeal.τ).loc Cert.OutFFRefIdeal.main_arg4)
          ∧ r.2.mem ((c.tc : Thread Cert.OutFFRefIdeal.nD Cert.OutFFRefIdeal.τ).loc Cert.OutFFRefIdeal.main_arg5) = m' ((c.tc : Thread Cert.OutFFRefIdeal.nD Cert.OutFFRefIdeal.τ).loc Cert.OutFFRefIdeal.main_arg5)
          ∧ r.2.mem ((c.tc : Thread Cert.OutFFRefIdeal.nD Cert.OutFFRefIdeal.τ).loc Cert.OutFFRefIdeal.main_arg6) = m' ((c.tc : Thread Cert.OutFFRefIdeal.nD Cert.OutFFRefIdeal.τ).loc Cert.OutFFRefIdeal.main_arg6)
          ∧ r.2.mem ((c.tc : Thread Cert.OutFFRefIdeal.nD Cert.OutFFRefIdeal.τ).loc Cert.OutFFRefIdeal.main_arg7) = m' ((c.tc : Thread Cert.OutFFRefIdeal.nD Cert.OutFFRefIdeal.τ).loc Cert.OutFFRefIdeal.main_arg7)
          ∧ r.2.mem ((c.tc : Thread Cert.OutFFRefIdeal.nD Cert.OutFFRefIdeal.τ).loc Cert.OutFFRefIdeal.main_arg8) = m' ((c.tc : Thread Cert.OutFFRefIdeal.nD Cert.OutFFRefIdeal.τ).loc Cert.OutFFRefIdeal.main_arg8)
          ∧ r.2.mem ((c.tc : Thread Cert.OutFFRefIdeal.nD Cert.OutFFRefIdeal.τ).loc Cert.OutFFRefIdeal.main_arg9) = m' ((c.tc : Thread Cert.OutFFRefIdeal.nD Cert.OutFFRefIdeal.τ).loc Cert.OutFFRefIdeal.main_arg9)
          ∧ r.2.mem ((c.tc : Thread Cert.OutFFRefIdeal.nD Cert.OutFFRefIdeal.τ).loc Cert.OutFFRefIdeal.main_arg10) = m' ((c.tc : Thread Cert.OutFFRefIdeal.nD Cert.OutFFRefIdeal.τ).loc Cert.OutFFRefIdeal.main_arg10)
          ∧ r.2.mem ((c.tc : Thread Cert.OutFFRefIdeal.nD Cert.OutFFRefIdeal.τ).loc Cert.OutFFRefIdeal.main_arg11) = m' ((c.tc : Thread Cert.OutFFRefIdeal.nD Cert.OutFFRefIdeal.τ).loc Cert.OutFFRefIdeal.main_arg11))

def Claim : Prop :=
  ∃ (hAttn : Cert.Attn.Facts) (hAttnIdeal : Cert.AttnIdeal.Facts) (hAttnRefIdeal : Cert.AttnRefIdeal.Facts) (hOutFF : Cert.OutFF.Facts) (hOutFFIdeal : Cert.OutFFIdeal.Facts) (hOutFFRefIdeal : Cert.OutFFRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_OutFF (hOutFF := hOutFF)
    ∧ quiescent_OutFFIdeal (hOutFFIdeal := hOutFFIdeal)
    ∧ quiescent_OutFFRefIdeal (hOutFFRefIdeal := hOutFFRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_OutFF_OutFFIdeal
    ∧ algebraic_OutFFIdeal_OutFFRefIdeal (hOutFFIdeal := hOutFFIdeal) (hOutFFRefIdeal := hOutFFRefIdeal)
-- ==== Pre_finite.lean ====
abbrev S8 : Shape := ⟨1, ![8]⟩
abbrev S8x8192x512 : Shape := ⟨3, ![8, 8192, 512]⟩
abbrev S8x8192x128 : Shape := ⟨3, ![8, 8192, 128]⟩
abbrev S8x256x128 : Shape := ⟨3, ![8, 256, 128]⟩
abbrev S_ : Shape := ⟨0, ![]⟩

class Facts : Prop where
  bcast_S_S8 : S_.BroadcastsInDim S8 (![] : Fin 0 → Fin S8.rank)
  bcast_S_S8x8192x512 : S_.BroadcastsInDim S8x8192x512 (![] : Fin 0 → Fin S8x8192x512.rank)
  bcast_S_S8x8192x128 : S_.BroadcastsInDim S8x8192x128 (![] : Fin 0 → Fin S8x8192x128.rank)
  bcast_S_S8x256x128 : S_.BroadcastsInDim S8x256x128 (![] : Fin 0 → Fin S8x256x128.rank)

variable [Facts]

def fn {F : FTy → Type} [FloatOps F] (main_arg0 : FVec F S8 .f32) (main_arg1 : FVec F S8x8192x512 .f32) (main_arg2 : FVec F S8x8192x128 .f32) (main_arg3 : FVec F S8x8192x128 .f32) (main_arg4 : FVec F S8x256x128 .f32) (main_arg5 : FVec F S8x256x128 .f32) : IVec S8 1 × IVec S8x8192x512 1 × IVec S8x8192x128 1 × IVec S8x256x128 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S8x8192x512 .f32 := Host.absf main_arg1
  let main_cst_0 : FVec F S_ .f32 := constant S_ .f32 0x7F800000#32
  let main_v4 : FVec F S8x8192x512 .f32 := broadcastInDim S8x8192x512 ![] bcast_S_S8x8192x512 main_cst_0
  let main_v5 : IVec S8x8192x512 1 := cmpf .olt main_v3 main_v4
  let main_v6 : FVec F S8x8192x128 .f32 := Host.absf main_arg2
  let main_cst_1 : FVec F S_ .f32 := constant S_ .f32 0x7F800000#32
  let main_v7 : FVec F S8x8192x128 .f32 := broadcastInDim S8x8192x128 ![] bcast_S_S8x8192x128 main_cst_1
  let main_v8 : IVec S8x8192x128 1 := cmpf .olt main_v6 main_v7
  let main_v9 : FVec F S8x256x128 .f32 := Host.absf main_arg4
  let main_cst_2 : FVec F S_ .f32 := constant S_ .f32 0x7F800000#32
  let main_v10 : FVec F S8x256x128 .f32 := broadcastInDim S8x256x128 ![] bcast_S_S8x256x128 main_cst_2
  let main_v11 : IVec S8x256x128 1 := cmpf .olt main_v9 main_v10
  (main_v2, main_v5, main_v8, main_v11)
-- ==== Attn.lean ====
abbrev S8 : Shape := ⟨1, ![8]⟩
abbrev S8x8192x512 : Shape := ⟨3, ![8, 8192, 512]⟩
abbrev S8x8192x128 : Shape := ⟨3, ![8, 8192, 128]⟩
abbrev S8x256x128 : Shape := ⟨3, ![8, 256, 128]⟩
abbrev S8x8192x64 : Shape := ⟨3, ![8, 8192, 64]⟩
abbrev S8x8192x256 : Shape := ⟨3, ![8, 8192, 256]⟩
abbrev S_ : Shape := ⟨0, ![]⟩
abbrev S8x256x8192 : Shape := ⟨3, ![8, 256, 8192]⟩
abbrev S8x256x64 : Shape := ⟨3, ![8, 256, 64]⟩
abbrev S8x256x256 : Shape := ⟨3, ![8, 256, 256]⟩
abbrev S2048x256 : Shape := ⟨2, ![2048, 256]⟩
abbrev S256x2048 : Shape := ⟨2, ![256, 2048]⟩
abbrev S1x256x2048 : Shape := ⟨3, ![1, 256, 2048]⟩
abbrev S1x2048x512 : Shape := ⟨3, ![1, 2048, 512]⟩
abbrev S1x128x256 : Shape := ⟨3, ![1, 128, 256]⟩
abbrev S1x2048x256 : Shape := ⟨3, ![1, 2048, 256]⟩
abbrev S1x256x128 : Shape := ⟨3, ![1, 256, 128]⟩
abbrev S1x256x256 : Shape := ⟨3, ![1, 256, 256]⟩
abbrev S64x128 : Shape := ⟨2, ![64, 128]⟩
abbrev S1x256 : Shape := ⟨2, ![1, 256]⟩
abbrev S128x256 : Shape := ⟨2, ![128, 256]⟩
abbrev S256x128 : Shape := ⟨2, ![256, 128]⟩
abbrev S256x2304 : Shape := ⟨2, ![256, 2304]⟩
abbrev S64x256 : Shape := ⟨2, ![64, 256]⟩
abbrev S1x64x128 : Shape := ⟨3, ![1, 64, 128]⟩
abbrev S256x256 : Shape := ⟨2, ![256, 256]⟩
abbrev S1x128x128 : Shape := ⟨3, ![1, 128, 128]⟩
abbrev S128x128 : Shape := ⟨2, ![128, 128]⟩
abbrev S1x2048x128 : Shape := ⟨3, ![1, 2048, 128]⟩
abbrev S2048x128 : Shape := ⟨2, ![2048, 128]⟩
abbrev S2304x128 : Shape := ⟨2, ![2304, 128]⟩
abbrev S320x128 : Shape := ⟨2, ![320, 128]⟩
abbrev S320x256 : Shape := ⟨2, ![320, 256]⟩
abbrev S1 : Shape := ⟨1, ![1]⟩
abbrev S256 : Shape := ⟨1, ![256]⟩
abbrev S128x320 : Shape := ⟨2, ![128, 320]⟩
abbrev S128x64 : Shape := ⟨2, ![128, 64]⟩

abbrev nBuf : Space → Nat
  | .hbm => 35
  | .vmem => 20
  | .smem => 1
  | _ => 0

abbrev bufTy : (tb : Table) → Fin (tcTables nBuf tb) → BufTy
  | .hbm, ⟨0, _⟩ => ⟨S8, .f32⟩
  | .hbm, ⟨1, _⟩ => ⟨S8x8192x512, .f32⟩
  | .hbm, ⟨2, _⟩ => ⟨S8x8192x128, .f32⟩
  | .hbm, ⟨3, _⟩ => ⟨S8x8192x128, .f32⟩
  | .hbm, ⟨4, _⟩ => ⟨S8x256x128, .f32⟩
  | .hbm, ⟨5, _⟩ => ⟨S8x256x128, .f32⟩
  | .hbm, ⟨6, _⟩ => ⟨S8x8192x64, .f32⟩
  | .hbm, ⟨7, _⟩ => ⟨S8x8192x64, .f32⟩
  | .hbm, ⟨8, _⟩ => ⟨S8x8192x64, .f32⟩
  | .hbm, ⟨9, _⟩ => ⟨S8x8192x64, .f32⟩
  | .hbm, ⟨10, _⟩ => ⟨S8x8192x256, .f32⟩
  | .hbm, ⟨11, _⟩ => ⟨S8x8192x256, .bf16⟩
  | .hbm, ⟨12, _⟩ => ⟨S_, .f32⟩
  | .hbm, ⟨13, _⟩ => ⟨S8x8192x64, .f32⟩
  | .hbm, ⟨14, _⟩ => ⟨S8x8192x64, .f32⟩
  | .hbm, ⟨15, _⟩ => ⟨S8x8192x64, .f32⟩
  | .hbm, ⟨16, _⟩ => ⟨S8x8192x256, .f32⟩
  | .hbm, ⟨17, _⟩ => ⟨S8x256x8192, .f32⟩
  | .hbm, ⟨18, _⟩ => ⟨S8x256x8192, .bf16⟩
  | .hbm, ⟨19, _⟩ => ⟨S8x256x64, .f32⟩
  | .hbm, ⟨20, _⟩ => ⟨S8x256x64, .f32⟩
  | .hbm, ⟨21, _⟩ => ⟨S8x256x64, .f32⟩
  | .hbm, ⟨22, _⟩ => ⟨S8x256x64, .f32⟩
  | .hbm, ⟨23, _⟩ => ⟨S8x256x256, .f32⟩
  | .hbm, ⟨24, _⟩ => ⟨S8x256x256, .bf16⟩
  | .hbm, ⟨25, _⟩ => ⟨S_, .f32⟩
  | .hbm, ⟨26, _⟩ => ⟨S8x256x64, .f32⟩
  | .hbm, ⟨27, _⟩ => ⟨S8x256x64, .f32⟩
  | .hbm, ⟨28, _⟩ => ⟨S8x256x64, .f32⟩
  | .hbm, ⟨29, _⟩ => ⟨S8x256x256, .f32⟩
  | .hbm, ⟨30, _⟩ => ⟨S2048x256, .f32⟩
  | .hbm, ⟨31, _⟩ => ⟨S256x2048, .f32⟩
  | .hbm, ⟨32, _⟩ => ⟨S1x256x2048, .f32⟩
  | .hbm, ⟨33, _⟩ => ⟨S1x256x2048, .bf16⟩
  | .hbm, ⟨34, _⟩ => ⟨S8x8192x512, .bf16⟩
  | .local _ .vmem, ⟨0, _⟩ => ⟨S1x2048x512, .f32⟩
  | .local _ .vmem, ⟨1, _⟩ => ⟨S1x2048x512, .f32⟩
  | .local _ .vmem, ⟨2, _⟩ => ⟨S1x128x256, .bf16⟩
  | .local _ .vmem, ⟨3, _⟩ => ⟨S1x128x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x256x128, .bf16⟩
  | .local _ .vmem, ⟨13, _⟩ => ⟨S1x256x128, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x2048x512, .bf16⟩
  | .local _ .vmem, ⟨19, _⟩ => ⟨S1x2048x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  let c0_i32_0 : BitVec 32 := 0#32
  ![arg0.toNat, c0_i32.toNat, v2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "log2e" => some (((Real.log 2)⁻¹ : ℝ) : EReal)
  | "mask" => some ⊥
  | "scale" => some (((1 / 8) * (Real.log 2)⁻¹ : ℝ) : EReal)
  | _ => none
-- ==== AttnRefIdeal.lean ====
abbrev S8 : Shape := ⟨1, ![8]⟩
abbrev S8x8192x512 : Shape := ⟨3, ![8, 8192, 512]⟩
abbrev S8x8192x128 : Shape := ⟨3, ![8, 8192, 128]⟩
abbrev S8x256x128 : Shape := ⟨3, ![8, 256, 128]⟩
abbrev S8x8192x8x64 : Shape := ⟨4, ![8, 8192, 8, 64]⟩
abbrev S8x8192x2x64 : Shape := ⟨4, ![8, 8192, 2, 64]⟩
abbrev S8x256x2x64 : Shape := ⟨4, ![8, 256, 2, 64]⟩
abbrev S8x64x128x2x4x64 : Shape := ⟨6, ![8, 64, 128, 2, 4, 64]⟩
abbrev S8x64x128x2x64 : Shape := ⟨5, ![8, 64, 128, 2, 64]⟩
abbrev S8x1x128x2x64 : Shape := ⟨5, ![8, 1, 128, 2, 64]⟩
abbrev S_ : Shape := ⟨0, ![]⟩
abbrev S8x63x128x2x64 : Shape := ⟨5, ![8, 63, 128, 2, 64]⟩
abbrev S8x64x384x2x64 : Shape := ⟨5, ![8, 64, 384, 2, 64]⟩
abbrev S8x64x2x384x128x4 : Shape := ⟨6, ![8, 64, 2, 384, 128, 4]⟩
abbrev S8x64x2x4x128x384 : Shape := ⟨6, ![8, 64, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S64 : Shape := ⟨1, ![64]⟩
abbrev S64x1x1 : Shape := ⟨3, ![64, 1, 1]⟩
abbrev S1x1x384 : Shape := ⟨3, ![1, 1, 384]⟩
abbrev S64x1x384 : Shape := ⟨3, ![64, 1, 384]⟩
abbrev S1x128x384 : Shape := ⟨3, ![1, 128, 384]⟩
abbrev S64x128x384 : Shape := ⟨3, ![64, 128, 384]⟩
abbrev S1x64x1x1x128x384 : Shape := ⟨6, ![1, 64, 1, 1, 128, 384]⟩
abbrev S8x2x256x64x128x4 : Shape := ⟨6, ![8, 2, 256, 64, 128, 4]⟩
abbrev S8x64x2x4x128x256 : Shape := ⟨6, ![8, 64, 2, 4, 128, 256]⟩
abbrev S1x1x2x4x1x1 : Shape := ⟨6, ![1, 1, 2, 4, 1, 1]⟩
abbrev S8x64x2x4x128x1 : Shape := ⟨6, ![8, 64, 2, 4, 128, 1]⟩
abbrev S8x64x2x4x128x641 : Shape := ⟨6, ![8, 64, 2, 4, 128, 641]⟩
abbrev S8x64x2x4x128 : Shape := ⟨5, ![8, 64, 2, 4, 128]⟩
abbrev S8x64x2x64x4x128 : Shape := ⟨6, ![8, 64, 2, 64, 4, 128]⟩
abbrev S8x2x64x64x4x128 : Shape := ⟨6, ![8, 2, 64, 64, 4, 128]⟩
abbrev S8x64x128x4x2x64 : Shape := ⟨6, ![8, 64, 128, 4, 2, 64]⟩

abbrev nBuf : Space → Nat
  | .hbm => 108
  | .vmem => 0
  | .smem => 0
  | _ => 0

abbrev bufTy : (tb : Table) → Fin (tcTables nBuf tb) → BufTy
  | .hbm, ⟨0, _⟩ => ⟨S8, .f32⟩
  | .hbm, ⟨1, _⟩ => ⟨S8x8192x512, .f32⟩
  | .hbm, ⟨2, _⟩ => ⟨S8x8192x128, .f32⟩
  | .hbm, ⟨3, _⟩ => ⟨S8x8192x128, .f32⟩
  | .hbm, ⟨4, _⟩ => ⟨S8x256x128, .f32⟩
  | .hbm, ⟨5, _⟩ => ⟨S8x256x128, .f32⟩
  | .hbm, ⟨6, _⟩ => ⟨S8x8192x8x64, .f32⟩
  | .hbm, ⟨7, _⟩ => ⟨S8x8192x2x64, .f32⟩
  | .hbm, ⟨8, _⟩ => ⟨S8x8192x2x64, .f32⟩
  | .hbm, ⟨9, _⟩ => ⟨S8x256x2x64, .f32⟩
  | .hbm, ⟨10, _⟩ => ⟨S8x256x2x64, .f32⟩
  | .hbm, ⟨11, _⟩ => ⟨S8x64x128x2x4x64, .f32⟩
  | .hbm, ⟨12, _⟩ => ⟨S8x64x128x2x64, .f32⟩
  | .hbm, ⟨13, _⟩ => ⟨S8x1x128x2x64, .f32⟩
  | .hbm, ⟨14, _⟩ => ⟨S_, .f32⟩
  | .hbm, ⟨15, _⟩ => ⟨S8x1x128x2x64, .f32⟩
  | .hbm, ⟨16, _⟩ => ⟨S8x63x128x2x64, .f32⟩
  | .hbm, ⟨17, _⟩ => ⟨S8x64x128x2x64, .f32⟩
  | .hbm, ⟨18, _⟩ => ⟨S8x63x128x2x64, .f32⟩
  | .hbm, ⟨19, _⟩ => ⟨S8x64x128x2x64, .f32⟩
  | .hbm, ⟨20, _⟩ => ⟨S8x64x384x2x64, .f32⟩
  | .hbm, ⟨21, _⟩ => ⟨S8x64x128x2x64, .f32⟩
  | .hbm, ⟨22, _⟩ => ⟨S8x1x128x2x64, .f32⟩
  | .hbm, ⟨23, _⟩ => ⟨S_, .f32⟩
  | .hbm, ⟨24, _⟩ => ⟨S8x1x128x2x64, .f32⟩
  | .hbm, ⟨25, _⟩ => ⟨S8x63x128x2x64, .f32⟩
  | .hbm, ⟨26, _⟩ => ⟨S8x64x128x2x64, .f32⟩
  | .hbm, ⟨27, _⟩ => ⟨S8x63x128x2x64, .f32⟩
  | .hbm, ⟨28, _⟩ => ⟨S8x64x128x2x64, .f32⟩
  | .hbm, ⟨29, _⟩ => ⟨S8x64x384x2x64, .f32⟩
  | .hbm, ⟨30, _⟩ => ⟨S8x64x2x384x128x4, .f32⟩
  | .hbm, ⟨31, _⟩ => ⟨S8x64x2x4x128x384, .f32⟩
  | .hbm, ⟨32, _⟩ => ⟨S_, .f32⟩
  | .hbm, ⟨33, _⟩ => ⟨S8x64x2x4x128x384, .f32⟩
  | .hbm, ⟨34, _⟩ => ⟨S8x64x2x4x128x384, .f32⟩
  | .hbm, ⟨35, _⟩ => ⟨S128, .i32⟩
  | .hbm, ⟨36, _⟩ => ⟨S128x1, .i32⟩
  | .hbm, ⟨37, _⟩ => ⟨S384, .i32⟩
  | .hbm, ⟨38, _⟩ => ⟨S1x384, .i32⟩
  | .hbm, ⟨39, _⟩ => ⟨S_, .i32⟩
  | .hbm, ⟨40, _⟩ => ⟨S1x384, .i32⟩
  | .hbm, ⟨41, _⟩ => ⟨S1x384, .i32⟩
  | .hbm, ⟨42, _⟩ => ⟨S128x384, .i32⟩
  | .hbm, ⟨43, _⟩ => ⟨S128x384, .i32⟩
  | .hbm, ⟨44, _⟩ => ⟨S128x384, .i32⟩
  | .hbm, ⟨45, _⟩ => ⟨S128x384, .i32⟩
  | .hbm, ⟨46, _⟩ => ⟨S_, .i32⟩
  | .hbm, ⟨47, _⟩ => ⟨S128x384, .i32⟩
  | .hbm, ⟨48, _⟩ => ⟨S128x384, .i1⟩
  | .hbm, ⟨49, _⟩ => ⟨S64, .i32⟩
  | .hbm, ⟨50, _⟩ => ⟨S64x1x1, .i32⟩
  | .hbm, ⟨51, _⟩ => ⟨S_, .i32⟩
  | .hbm, ⟨52, _⟩ => ⟨S64x1x1, .i32⟩
  | .hbm, ⟨53, _⟩ => ⟨S64x1x1, .i32⟩
  | .hbm, ⟨54, _⟩ => ⟨S1x1x384, .i32⟩
  | .hbm, ⟨55, _⟩ => ⟨S64x1x384, .i32⟩
  | .hbm, ⟨56, _⟩ => ⟨S64x1x384, .i32⟩
  | .hbm, ⟨57, _⟩ => ⟨S64x1x384, .i32⟩
  | .hbm, ⟨58, _⟩ => ⟨S1x128x384, .i1⟩
  | .hbm, ⟨59, _⟩ => ⟨S_, .i32⟩
  | .hbm, ⟨60, _⟩ => ⟨S64x1x384, .i32⟩
  | .hbm, ⟨61, _⟩ => ⟨S64x1x384, .i1⟩
  | .hbm, ⟨62, _⟩ => ⟨S64x128x384, .i1⟩
  | .hbm, ⟨63, _⟩ => ⟨S64x128x384, .i1⟩
  | .hbm, ⟨64, _⟩ => ⟨S64x128x384, .i1⟩
  | .hbm, ⟨65, _⟩ => ⟨S_, .i32⟩
  | .hbm, ⟨66, _⟩ => ⟨S64x1x384, .i32⟩
  | .hbm, ⟨67, _⟩ => ⟨S64x1x384, .i1⟩
  | .hbm, ⟨68, _⟩ => ⟨S64x128x384, .i1⟩
  | .hbm, ⟨69, _⟩ => ⟨S64x128x384, .i1⟩
  | .hbm, ⟨70, _⟩ => ⟨S1x64x1x1x128x384, .i1⟩
  | .hbm, ⟨71, _⟩ => ⟨S_, .f32⟩
  | .hbm, ⟨72, _⟩ => ⟨S_, .f32⟩
  | .hbm, ⟨73, _⟩ => ⟨S8x64x2x4x128x384, .i1⟩
  | .hbm, ⟨74, _⟩ => ⟨S8x64x2x4x128x384, .f32⟩
  | .hbm, ⟨75, _⟩ => ⟨S8x64x2x4x128x384, .f32⟩
  | .hbm, ⟨76, _⟩ => ⟨S8x2x256x64x128x4, .f32⟩
  | .hbm, ⟨77, _⟩ => ⟨S8x64x2x4x128x256, .f32⟩
  | .hbm, ⟨78, _⟩ => ⟨S_, .f32⟩
  | .hbm, ⟨79, _⟩ => ⟨S8x64x2x4x128x256, .f32⟩
  | .hbm, ⟨80, _⟩ => ⟨S8x64x2x4x128x256, .f32⟩
  | .hbm, ⟨81, _⟩ => ⟨S1x1x2x4x1x1, .f32⟩
  | .hbm, ⟨82, _⟩ => ⟨S8x64x2x4x128x1, .f32⟩
  | .hbm, ⟨83, _⟩ => ⟨S8x64x2x4x128x641, .f32⟩
  | .hbm, ⟨84, _⟩ => ⟨S_, .f32⟩
  | .hbm, ⟨85, _⟩ => ⟨S8x64x2x4x128, .f32⟩
  | .hbm, ⟨86, _⟩ => ⟨S_, .f32⟩
  | .hbm, ⟨87, _⟩ => ⟨S8x64x2x4x128, .f32⟩
  | .hbm, ⟨88, _⟩ => ⟨S8x64x2x4x128, .f32⟩
  | .hbm, ⟨89, _⟩ => ⟨S8x64x2x4x128x1, .f32⟩
  | .hbm, ⟨90, _⟩ => ⟨S8x64x2x4x128x641, .f32⟩
  | .hbm, ⟨91, _⟩ => ⟨S8x64x2x4x128x641, .f32⟩
  | .hbm, ⟨92, _⟩ => ⟨S8x64x2x4x128x641, .f32⟩
  | .hbm, ⟨93, _⟩ => ⟨S_, .f32⟩
  | .hbm, ⟨94, _⟩ => ⟨S8x64x2x4x128, .f32⟩
  | .hbm, ⟨95, _⟩ => ⟨S8x64x2x4x128x1, .f32⟩
  | .hbm, ⟨96, _⟩ => ⟨S8x64x2x4x128x641, .f32⟩
  | .hbm, ⟨97, _⟩ => ⟨S8x64x2x4x128x641, .f32⟩
  | .hbm, ⟨98, _⟩ => ⟨S8x64x2x4x128x384, .f32⟩
  | .hbm, ⟨99, _⟩ => ⟨S8x64x2x4x128x256, .f32⟩
  | .hbm, ⟨100, _⟩ => ⟨S8x64x2x64x4x128, .f32⟩
  | .hbm, ⟨101, _⟩ => ⟨S8x64x128x2x4x64, .f32⟩
  | .hbm, ⟨102, _⟩ => ⟨S8x2x64x64x4x128, .f32⟩
  | .hbm, ⟨103, _⟩ => ⟨S8x64x128x2x4x64, .f32⟩
  | .hbm, ⟨104, _⟩ => ⟨S8x64x128x2x4x64, .f32⟩
  | .hbm, ⟨105, _⟩ => ⟨S8x64x128x4x2x64, .f32⟩
  | .hbm, ⟨106, _⟩ => ⟨S8x8192x512, .f32⟩
  | .hbm, ⟨107, _⟩ => ⟨S8x8192x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_cst_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_10 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== OutFF.lean ====
abbrev S8x8192x1024 : Shape := ⟨3, ![8, 8192, 1024]⟩
abbrev S8x8192x512 : Shape := ⟨3, ![8, 8192, 512]⟩
abbrev S8x8192x256 : Shape := ⟨3, ![8, 8192, 256]⟩
abbrev S2x16x1x6144 : Shape := ⟨4, ![2, 16, 1, 6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S512 : Shape := ⟨1, ![512]⟩
abbrev S_ : Shape := ⟨0, ![]⟩
abbrev S512x1 : Shape := ⟨2, ![512, 1]⟩
abbrev S1x1024 : Shape := ⟨2, ![1, 1024]⟩
abbrev S512x1024 : Shape := ⟨2, ![512, 1024]⟩
abbrev S1x1024x1024 : Shape := ⟨3, ![1, 1024, 1024]⟩
abbrev S1x1024x512 : Shape := ⟨3, ![1, 1024, 512]⟩
abbrev S1x1024x256 : Shape := ⟨3, ![1, 1024, 256]⟩
abbrev S1x1x1x1024 : Shape := ⟨4, ![1, 1, 1, 1024]⟩
abbrev S1x512x512 : Shape := ⟨3, ![1, 512, 512]⟩
abbrev S512x512 : Shape := ⟨2, ![512, 512]⟩
abbrev S1x512 : Shape := ⟨2, ![1, 512]⟩
abbrev S1x512x256 : Shape := ⟨3, ![1, 512, 256]⟩
abbrev S512x256 : Shape := ⟨2, ![512, 256]⟩
abbrev S1x256 : Shape := ⟨2, ![1, 256]⟩
abbrev S1x512x1024 : Shape := ⟨3, ![1, 512, 1024]⟩
abbrev S1024x2048 : Shape := ⟨2, ![1024, 2048]⟩
abbrev S512x2048 : Shape := ⟨2, ![512, 2048]⟩
abbrev S2048x1024 : Shape := ⟨2, ![2048, 1024]⟩

abbrev nBuf : Space → Nat
  | .hbm => 41
  | .vmem => 25
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x256, .f32⟩
  | .hbm, ⟨3, _⟩ => ⟨S8x8192x256, .f32⟩
  | .hbm, ⟨4, _⟩ => ⟨S2x16x1x6144, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S512, .i32⟩
  | .hbm, ⟨13, _⟩ => ⟨S512, .i1⟩
  | .hbm, ⟨14, _⟩ => ⟨S512, .i1⟩
  | .hbm, ⟨15, _⟩ => ⟨S512, .f32⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S512, .i32⟩
  | .hbm, ⟨20, _⟩ => ⟨S512x1, .i32⟩
  | .hbm, ⟨21, _⟩ => ⟨S512, .f32⟩
  | .hbm, ⟨22, _⟩ => ⟨S512, .f32⟩
  | .hbm, ⟨23, _⟩ => ⟨S1024, .f32⟩
  | .hbm, ⟨24, _⟩ => ⟨S1x1024, .f32⟩
  | .hbm, ⟨25, _⟩ => ⟨S512x1024, .f32⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S512x1, .i32⟩
  | .hbm, ⟨31, _⟩ => ⟨S512x1024, .f32⟩
  | .hbm, ⟨32, _⟩ => ⟨S512x1024, .f32⟩
  | .hbm, ⟨33, _⟩ => ⟨S1024x1024, .f32⟩
  | .hbm, ⟨34, _⟩ => ⟨S1024x1024, .bf16⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1024x4096, .bf16⟩
  | .hbm, ⟨39, _⟩ => ⟨S4096x1024, .bf16⟩
  | .hbm, ⟨40, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x1024, .bf16⟩
  | .local _ .vmem, ⟨21, _⟩ => ⟨S1024x4096, .bf16⟩
  | .local _ .vmem, ⟨22, _⟩ => ⟨S4096x1024, .bf16⟩
  | .local _ .vmem, ⟨23, _⟩ => ⟨S1x1024x1024, .f32⟩
  | .local _ .vmem, ⟨24, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v0 : Ref sig .tc := ⟨.hbm, 15, rfl⟩
abbrev main_c_2 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c2_i32 : BitVec 32 := 2#32
  let c0_i32_0 : BitVec 32 := 0#32
  ![c1_i32.toNat, arg0.toNat, c0_i32.toNat, c2_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c4_i32 : BitVec 32 := 4#32
  let c0_i32_0 : BitVec 32 := 0#32
  ![c1_i32.toNat, arg0.toNat, c0_i32.toNat, c4_i32.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c3_i32 : BitVec 32 := 3#32
  let c0_i32_0 : BitVec 32 := 0#32
  ![c1_i32.toNat, arg0.toNat, c0_i32.toNat, c3_i32.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c5_i32 : BitVec 32 := 5#32
  let c0_i32_0 : BitVec 32 := 0#32
  ![c1_i32.toNat, arg0.toNat, c0_i32.toNat, c5_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== OutFFRefIdeal.lean ====
abbrev S8x8192x1024 : Shape := ⟨3, ![8, 8192, 1024]⟩
abbrev S8x8192x512 : Shape := ⟨3, ![8, 8192, 512]⟩
abbrev S8x8192x256 : Shape := ⟨3, ![8, 8192, 256]⟩
abbrev S2x16x1x6144 : Shape := ⟨4, ![2, 16, 1, 6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S8x8192x4x2x64 : Shape := ⟨5, ![8, 8192, 4, 2, 64]⟩
abbrev S8x8192x2x4x64 : Shape := ⟨5, ![8, 8192, 2, 4, 64]⟩
abbrev S1x8x1x6144 : Shape := ⟨4, ![1, 8, 1, 6144]⟩
abbrev S8x1x6144 : Shape := ⟨3, ![8, 1, 6144]⟩
abbrev S8x1x1024 : Shape := ⟨3, ![8, 1, 1024]⟩
abbrev S512 : Shape := ⟨1, ![512]⟩
abbrev S_ : Shape := ⟨0, ![]⟩
abbrev S8x8192 : Shape := ⟨2, ![8, 8192]⟩
abbrev S8x8192x1 : Shape := ⟨3, ![8, 8192, 1]⟩
abbrev S1x1x512 : Shape := ⟨3, ![1, 1, 512]⟩
abbrev S256 : Shape := ⟨1, ![256]⟩
abbrev S1x1x256 : Shape := ⟨3, ![1, 1, 256]⟩
abbrev S1x1x1024 : Shape := ⟨3, ![1, 1, 1024]⟩
abbrev S8x8192x4096 : Shape := ⟨3, ![8, 8192, 4096]⟩

abbrev nBuf : Space → Nat
  | .hbm => 144
  | .vmem => 0
  | .smem => 0
  | _ => 0

abbrev hbmTy0_0 (i : Nat) : BufTy := match i % 128 with
  | 0 => ⟨S8x8192x1024, .f32⟩
  | 1 => ⟨S8x8192x512, .bf16⟩
  | 2 => ⟨S8x8192x256, .f32⟩
  | 3 => ⟨S8x8192x256, .f32⟩
  | 4 => ⟨S2x16x1x6144, .f32⟩
  | 5 => ⟨S1024, .f32⟩
  | 6 => ⟨S1024x1024, .f32⟩
  | 7 => ⟨S1024, .f32⟩
  | 8 => ⟨S1024, .f32⟩
  | 9 => ⟨S1024x4096, .f32⟩
  | 10 => ⟨S4096x1024, .f32⟩
  | 11 => ⟨S1024, .f32⟩
  | 12 => ⟨S8x8192x512, .f32⟩
  | 13 => ⟨S8x8192x4x2x64, .f32⟩
  | 14 => ⟨S8x8192x2x4x64, .f32⟩
  | 15 => ⟨S8x8192x512, .f32⟩
  | 16 => ⟨S1x8x1x6144, .f32⟩
  | 17 => ⟨S8x1x6144, .f32⟩
  | 18 => ⟨S8x1x1024, .f32⟩
  | 19 => ⟨S8x1x1024, .f32⟩
  | 20 => ⟨S8x1x1024, .f32⟩
  | 21 => ⟨S8x1x1024, .f32⟩
  | 22 => ⟨S8x1x1024, .f32⟩
  | 23 => ⟨S8x1x1024, .f32⟩
  | 24 => ⟨S512, .f32⟩
  | 25 => ⟨S8x8192x512, .f32⟩
  | 26 => ⟨S_, .f32⟩
  | 27 => ⟨S8x8192, .f32⟩
  | 28 => ⟨S8x8192x1, .f32⟩
  | 29 => ⟨S_, .f32⟩
  | 30 => ⟨S8x8192x1, .f32⟩
  | 31 => ⟨S8x8192x1, .f32⟩
  | 32 => ⟨S_, .f32⟩
  | 33 => ⟨S8x8192x1, .f32⟩
  | 34 => ⟨S8x8192x1, .f32⟩
  | 35 => ⟨S8x8192x1, .f32⟩
  | 36 => ⟨S8x8192x512, .f32⟩
  | 37 => ⟨S8x8192x512, .f32⟩
  | 38 => ⟨S1x1x512, .f32⟩
  | 39 => ⟨S8x8192x512, .f32⟩
  | 40 => ⟨S8x8192x512, .f32⟩
  | 41 => ⟨S256, .f32⟩
  | 42 => ⟨S8x8192x256, .f32⟩
  | 43 => ⟨S_, .f32⟩
  | 44 => ⟨S8x8192, .f32⟩
  | 45 => ⟨S8x8192x1, .f32⟩
  | 46 => ⟨S_, .f32⟩
  | 47 => ⟨S8x8192x1, .f32⟩
  | 48 => ⟨S8x8192x1, .f32⟩
  | 49 => ⟨S_, .f32⟩
  | 50 => ⟨S8x8192x1, .f32⟩
  | 51 => ⟨S8x8192x1, .f32⟩
  | 52 => ⟨S8x8192x1, .f32⟩
  | 53 => ⟨S8x8192x256, .f32⟩
  | 54 => ⟨S8x8192x256, .f32⟩
  | 55 => ⟨S1x1x256, .f32⟩
  | 56 => ⟨S8x8192x256, .f32⟩
  | 57 => ⟨S8x8192x256, .f32⟩
  | 58 => ⟨S256, .f32⟩
  | 59 => ⟨S8x8192x256, .f32⟩
  | 60 => ⟨S_, .f32⟩
  | 61 => ⟨S8x8192, .f32⟩
  | 62 => ⟨S8x8192x1, .f32⟩
  | 63 => ⟨S_, .f32⟩
  | 64 => ⟨S8x8192x1, .f32⟩
  | 65 => ⟨S8x8192x1, .f32⟩
  | 66 => ⟨S_, .f32⟩
  | 67 => ⟨S8x8192x1, .f32⟩
  | 68 => ⟨S8x8192x1, .f32⟩
  | 69 => ⟨S8x8192x1, .f32⟩
  | 70 => ⟨S8x8192x256, .f32⟩
  | 71 => ⟨S8x8192x256, .f32⟩
  | 72 => ⟨S1x1x256, .f32⟩
  | 73 => ⟨S8x8192x256, .f32⟩
  | 74 => ⟨S8x8192x256, .f32⟩
  | 75 => ⟨S8x8192x1024, .f32⟩
  | 76 => ⟨S8x8192x1024, .f32⟩
  | 77 => ⟨S8x8192x1024, .f32⟩
  | 78 => ⟨S_, .f32⟩
  | 79 => ⟨S8x8192, .f32⟩
  | 80 => ⟨S8x8192x1, .f32⟩
  | 81 => ⟨S_, .f32⟩
  | 82 => ⟨S8x8192x1, .f32⟩
  | 83 => ⟨S8x8192x1, .f32⟩
  | 84 => ⟨S_, .f32⟩
  | 85 => ⟨S8x8192x1, .f32⟩
  | 86 => ⟨S8x8192x1, .f32⟩
  | 87 => ⟨S8x8192x1, .f32⟩
  | 88 => ⟨S8x8192x1024, .f32⟩
  | 89 => ⟨S8x8192x1024, .f32⟩
  | 90 => ⟨S1x1x1024, .f32⟩
  | 91 => ⟨S8x8192x1024, .f32⟩
  | 92 => ⟨S8x8192x1024, .f32⟩
  | 93 => ⟨S8x8192x1024, .f32⟩
  | 94 => ⟨S8x8192x1024, .f32⟩
  | 95 => ⟨S8x8192x1024, .f32⟩
  | 96 => ⟨S8x8192x1024, .f32⟩
  | 97 => ⟨S_, .f32⟩
  | 98 => ⟨S8x8192, .f32⟩
  | 99 => ⟨S8x8192x1, .f32⟩
  | 100 => ⟨S_, .f32⟩
  | 101 => ⟨S8x8192x1, .f32⟩
  | 102 => ⟨S8x8192x1, .f32⟩
  | 103 => ⟨S_, .f32⟩
  | 104 => ⟨S8x8192x1, .f32⟩
  | 105 => ⟨S8x8192x1, .f32⟩
  | 106 => ⟨S8x8192x1, .f32⟩
  | 107 => ⟨S8x8192x1024, .f32⟩
  | 108 => ⟨S8x8192x1024, .f32⟩
  | 109 => ⟨S1x1x1024, .f32⟩
  | 110 => ⟨S8x8192x1024, .f32⟩
  | 111 => ⟨S8x8192x1024, .f32⟩
  | 112 => ⟨S_, .f32⟩
  | 113 => ⟨S8x1x1024, .f32⟩
  | 114 => ⟨S8x1x1024, .f32⟩
  | 115 => ⟨S8x8192x1024, .f32⟩
  | 116 => ⟨S8x8192x1024, .f32⟩
  | 117 => ⟨S8x8192x1024, .f32⟩
  | 118 => ⟨S8x8192x1024, .f32⟩
  | 119 => ⟨S8x8192x4096, .f32⟩
  | 120 => ⟨S_, .f32⟩
  | 121 => ⟨S8x8192x4096, .f32⟩
  | 122 => ⟨S8x8192x4096, .f32⟩
  | 123 => ⟨S8x8192x4096, .f32⟩
  | 124 => ⟨S8x8192x1024, .f32⟩
  | 125 => ⟨S8x8192x1024, .f32⟩
  | 126 => ⟨S_, .f32⟩
  | 127 => ⟨S8x8192, .f32⟩
  | _ => ⟨S8x8192x1024, .f32⟩

abbrev hbmTy0_1 (i : Nat) : BufTy := match i % 128 with
  | 0 => ⟨S8x8192x1, .f32⟩
  | 1 => ⟨S_, .f32⟩
  | 2 => ⟨S8x8192x1, .f32⟩
  | 3 => ⟨S8x8192x1, .f32⟩
  | 4 => ⟨S_, .f32⟩
  | 5 => ⟨S8x8192x1, .f32⟩
  | 6 => ⟨S8x8192x1, .f32⟩
  | 7 => ⟨S8x8192x1, .f32⟩
  | 8 => ⟨S8x8192x1024, .f32⟩
  | 9 => ⟨S8x8192x1024, .f32⟩
  | 10 => ⟨S1x1x1024, .f32⟩
  | 11 => ⟨S8x8192x1024, .f32⟩
  | 12 => ⟨S8x8192x1024, .f32⟩
  | 13 => ⟨S8x8192x1024, .f32⟩
  | 14 => ⟨S8x8192x1024, .f32⟩
  | 15 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_11 : Ref sig .tc := ⟨.hbm, 97, rfl⟩
abbrev main_v73 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_14 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_call0_cst : Ref sig .tc := ⟨.hbm, 120, rfl⟩
abbrev main_call0_v0 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_15 : Ref sig .tc := ⟨.hbm, 126, rfl⟩
abbrev main_v96 : Ref sig .tc := ⟨.hbm, 127, rfl⟩
abbrev main_v97 : Ref sig .tc := ⟨.hbm, 128, rfl⟩
abbrev main_cst_16 : Ref sig .tc := ⟨.hbm, 129, rfl⟩
abbrev main_v98 : Ref sig .tc := ⟨.hbm, 130, rfl⟩
abbrev main_v99 : Ref sig .tc := ⟨.hbm, 131, rfl⟩
abbrev main_cst_17 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩

abbrev nD : Nat := 1
abbrev τ : Topo := Topo.v7x

variable {F : FTy → Type} [FloatOps F]
-- ==== Proof.AttnUnit.lean ====
/- One unit of the local attention kernel: 64 queries of the four heads of a key head against the context and the 320
   local keys, and the tile of the result that four units make up. -/
module

public import proofs.«01_k».proof.Proof.Gen.AttnIdeal.Value
public import Idealize.ShloMosaic.Lib.Pointwise

@[expose] public section

set_option maxRecDepth 16384

noncomputable section

namespace Cert.AttnIdeal.Tile

open Idealize Idealize.ShloMosaic Cert.AttnIdeal Cert.AttnIdeal.Gen

/-- The first head of a pair of query heads, the other lanes zero. -/
def lowHead (v : Vec Ideal S1x64x128 .f32) : FVec Ideal S64x128 .f32 :=
  select (cmpi .slt (iota .tc S64x128 32 [1] iota_S64x128_d1_w32) (broadcast S64x128 64#32))
    (shapeCast S64x128 v shapeCasts_S1x64x128_S64x128) (broadcast S64x128 (Scalar.ofBits .f32 0x00000000#32))

/-- The second head of the pair. -/
def highHead (v : Vec Ideal S1x64x128 .f32) : FVec Ideal S64x128 .f32 :=
  select (cmpi .sge (iota .tc S64x128 32 [1] iota_S64x128_d1_w32) (broadcast S64x128 64#32))
    (shapeCast S64x128 v shapeCasts_S1x64x128_S64x128) (broadcast S64x128 (Scalar.ofBits .f32 0x00000000#32))

/-- The four heads' queries one below another, scaled. -/
def queries (p p' : Vec Ideal S1x64x128 .f32) : FVec Ideal S256x128 .bf16 :=
  truncf .bf16 (mulf
    (concatenate S256x128 0 [⟨S64x128, lowHead p⟩, ⟨S64x128, highHead p⟩, ⟨S64x128, lowHead p'⟩, ⟨S64x128, highHead p'⟩]
      concatenates_S64x128_S64x128_S64x128_S64x128_S256x128_d0)
    (broadcast S256x128 (Named.named κ "scale" 0x3E38AA3B#32))) bitsLt_bf16_f32

/-- Scores against the context. -/
def far (ck : Vec Ideal S1x256x128 .bf16) (q : FVec Ideal S256x128 .bf16) : FVec Ideal S256x256 .f32 :=
  matmul (φ₁ := .bf16) dot_S256x128_S256x128_S256x256_1_1_0_0_n_n none (shapeCast S256x128 ck shapeCasts_S1x256x128_S256x128) q
    (constant S256x256 .f32 0x00000000#32)

/-- The keys of the block before, the tile and the block after. -/
def keys (kp : Vec Ideal S1x128x128 .bf16) (ko : Vec Ideal S1x2048x128 .bf16) (kn : Vec Ideal S1x128x128 .bf16) :
    FVec Ideal S2304x128 .bf16 :=
  concatenate S2304x128 0 [⟨S128x128, shapeCast S128x128 kp shapeCasts_S1x128x128_S128x128⟩,
    ⟨S2048x128, shapeCast S2048x128 ko shapeCasts_S1x2048x128_S2048x128⟩,
    ⟨S128x128, shapeCast S128x128 kn shapeCasts_S1x128x128_S128x128⟩] concatenates_S128x128_S2048x128_S128x128_S2304x128_d0

/-- Their values, lanes first. -/
def values (vp : Vec Ideal S1x256x128 .bf16) (vo : Vec Ideal S1x256x2048 .bf16) (vn : Vec Ideal S1x256x128 .bf16) :
    FVec Ideal S256x2304 .bf16 :=
  concatenate S256x2304 1 [⟨S256x128, shapeCast S256x128 vp shapeCasts_S1x256x128_S256x128⟩,
    ⟨S256x2048, shapeCast S256x2048 vo shapeCasts_S1x256x2048_S256x2048⟩,
    ⟨S256x128, shapeCast S256x128 vn shapeCasts_S1x256x128_S256x128⟩] concatenates_S256x128_S256x2048_S256x128_S256x2304_d1

theorem key_slices : ∀ s : Fin 32, S2304x128.Slices ![s.val * 64, 0] S320x128 := by decide

theorem value_slices : ∀ (h : Fin 2) (s : Fin 32), S256x2304.Slices ![h.val * 128, s.val * 64] S128x320 := by decide

/-- Scores against the 320 keys about half block `s`. -/
def nearby (s : Fin 32) (k : FVec Ideal S2304x128 .bf16) (q : FVec Ideal S256x128 .bf16) : FVec Ideal S320x256 .f32 :=
  matmul dot_S320x128_S256x128_S320x256_1_1_0_0_n_n none (extractStridedSlice S320x128 ![s.val * 64, 0] k (key_slices s)) q
    (constant S320x256 .f32 0x00000000#32)

theorem tile_slices : ∀ j : Fin 5, S320x256.Slices ![j.val * 64, 0] S64x256 := by decide

/-- Tile `j` of the five. -/
def part (j : Fin 5) (x : FVec Ideal S320x256 .f32) : FVec Ideal S64x256 .f32 :=
  extractStridedSlice S64x256 ![j.val * 64, 0] x (tile_slices j)

/-- A tile masked throughout. -/
def masked : FVec Ideal S64x256 .f32 := broadcast S64x256 (Named.named κ "mask" 0xF149F2CA#32)

/-- The query's place in its half block. -/
def place : IVec S64x256 32 := andi (iota .tc S64x256 32 [1] iota_S64x256_d1_w32) (broadcast S64x256 63#32)

def fromPlace (x : FVec Ideal S64x256 .f32) : FVec Ideal S64x256 .f32 :=
  select (cmpi .sge (iota .tc S64x256 32 [0] iota_S64x256_d0_w32) place) x masked

def toPlace (x : FVec Ideal S64x256 .f32) : FVec Ideal S64x256 .f32 :=
  select (cmpi .sle (iota .tc S64x256 32 [0] iota_S64x256_d0_w32) place) x masked

/-- The whole tile kept or masked by `w`, where the half block stands at an edge. -/
def edge (c : Bool) (w : BitVec 1) (x : FVec Ideal S64x256 .f32) : FVec Ideal S64x256 .f32 :=
  cond c (Scalar.select w x masked) x

def tile0 (s : Fin 32) (w : BitVec 1) (x : FVec Ideal S320x256 .f32) : FVec Ideal S64x256 .f32 :=
  edge (Nat.ble s.val 1) w (fromPlace (part 0 x))
def tile1 (s : Fin 32) (w : BitVec 1) (x : FVec Ideal S320x256 .f32) : FVec Ideal S64x256 .f32 :=
  edge (Nat.ble s.val 0) w (part 1 x)
def tile2 (x : FVec Ideal S320x256 .f32) : FVec Ideal S64x256 .f32 := part 2 x
def tile3 (s : Fin 32) (w : BitVec 1) (x : FVec Ideal S320x256 .f32) : FVec Ideal S64x256 .f32 :=
  edge (Nat.ble 31 s.val) w (part 3 x)
def tile4 (s : Fin 32) (w : BitVec 1) (x : FVec Ideal S320x256 .f32) : FVec Ideal S64x256 .f32 :=
  edge (Nat.ble 30 s.val) w (toPlace (part 4 x))

/-- The four heads' sinks along the queries. -/
def sinks (a b c d : EReal) : FVec Ideal S1x256 .f32 :=
  select (cmpi .slt (iota .tc S1x256 32 [1] iota_S1x256_d1_w32) (broadcast S1x256 64#32))
    (broadcast S1x256 (Scalar.mulf (F := Ideal) (φ := .f32) a (Named.named κ "log2e" 0x3FB8AA3B#32)))
    (select (cmpi .slt (iota .tc S1x256 32 [1] iota_S1x256_d1_w32) (broadcast S1x256 128#32))
      (broadcast S1x256 (Scalar.mulf (F := Ideal) (φ := .f32) b (Named.named κ "log2e" 0x3FB8AA3B#32)))
      (select (cmpi .slt (iota .tc S1x256 32 [1] iota_S1x256_d1_w32) (broadcast S1x256 192#32))
        (broadcast S1x256 (Scalar.mulf (F := Ideal) (φ := .f32) c (Named.named κ "log2e" 0x3FB8AA3B#32)))
        (broadcast S1x256 (Scalar.mulf (F := Ideal) (φ := .f32) d (Named.named κ "log2e" 0x3FB8AA3B#32)))))

def top (x : FVec Ideal S64x256 .f32) : FVec Ideal S1x256 .f32 :=
  shapeCast S1x256 (multiReduction .maximumf [0] S256 x 0xFF800000#32 reduces_S64x256_S256 (.inl rfl) rfl) shapeCasts_S256_S1x256

def topFar (x : FVec Ideal S256x256 .f32) : FVec Ideal S1x256 .f32 :=
  shapeCast S1x256 (multiReduction .maximumf [0] S256 x 0xFF800000#32 reduces_S256x256_S256 (.inl rfl) rfl) shapeCasts_S256_S1x256

/-- The largest score of each query. -/
def peak (sk : FVec Ideal S1x256 .f32) (c : FVec Ideal S256x256 .f32) (t0 t1 t2 t3 t4 : FVec Ideal S64x256 .f32) :
    FVec Ideal S1x256 .f32 :=
  maximumf (maximumf (maximumf (maximumf (maximumf (maximumf sk (topFar c)) (top t0)) (top t1)) (top t2)) (top t3)) (top t4)

def lift (t : FVec Ideal S64x256 .f32) (m : FVec Ideal S1x256 .f32) : FVec Ideal S64x256 .f32 :=
  exp2 (subf t (broadcastTo S64x256 m broadcasts_S1x256_S64x256))

/-- The values weighted by the exponentials of the scores. -/
def weigh (h : Fin 2) (s : Fin 32) (v : FVec Ideal S256x2304 .bf16) (cv : Vec Ideal S1x128x256 .bf16)
    (m : FVec Ideal S1x256 .f32) (c : FVec Ideal S256x256 .f32) (t0 t1 t2 t3 t4 : FVec Ideal S64x256 .f32) : FVec Ideal S128x256 .f32 :=
  addf
    (matmul (φ₁ := .bf16) dot_S128x256_S256x256_S128x256_1_0_0_1_n_n none (shapeCast S128x256 cv shapeCasts_S1x128x256_S128x256)
      (truncf .bf16 (exp2 (subf c (broadcastTo S256x256 m broadcasts_S1x256_S256x256))) bitsLt_bf16_f32)
      (constant S128x256 .f32 0x00000000#32))
    (matmul dot_S128x320_S320x256_S128x256_1_0_0_1_n_n none
      (extractStridedSlice S128x320 ![h.val * 128, s.val * 64] v (value_slices h s))
      (truncf .bf16 (concatenate S320x256 0 [⟨S64x256, lift t0 m⟩, ⟨S64x256, lift t1 m⟩, ⟨S64x256, lift t2 m⟩, ⟨S64x256, lift t3 m⟩, ⟨S64x256, lift t4 m⟩]
        concatenates_S64x256_S64x256_S64x256_S64x256_S64x256_S320x256_d0) bitsLt_bf16_f32)
      (constant S128x256 .f32 0x00000000#32))

theorem ones_slices : ∀ h : Fin 2, S128x256.Slices ![64 - h.val * 64, 0] S1x256 := by decide

/-- The weighted values over the sum of the weights, which the row of ones holds. -/
def share (h : Fin 2) (sk m : FVec Ideal S1x256 .f32) (acc : FVec Ideal S128x256 .f32) : FVec Ideal S128x256 .f32 :=
  divf acc (broadcastTo S128x256 (addf (extractStridedSlice S1x256 ![64 - h.val * 64, 0] acc (ones_slices h)) (exp2 (subf sk m)))
    broadcasts_S1x256_S128x256)

/-- A unit from its scores. -/
def attend (h : Fin 2) (s : Fin 32) (v : FVec Ideal S256x2304 .bf16) (cv : Vec Ideal S1x128x256 .bf16)
    (sk : FVec Ideal S1x256 .f32) (c : FVec Ideal S256x256 .f32) (t0 t1 t2 t3 t4 : FVec Ideal S64x256 .f32) : FVec Ideal S128x256 .f32 :=
  share h sk (peak sk c t0 t1 t2 t3 t4) (weigh h s v cv (peak sk c t0 t1 t2 t3 t4) c t0 t1 t2 t3 t4)

/-- A unit from what it loads. -/
def unit (h : Fin 2) (s : Fin 32) (w w' : BitVec 1) (sk : FVec Ideal S1x256 .f32) (p p' : Vec Ideal S1x64x128 .f32)
    (k : FVec Ideal S2304x128 .bf16) (v : FVec Ideal S256x2304 .bf16) (ck : Vec Ideal S1x256x128 .bf16)
    (cv : Vec Ideal S1x128x256 .bf16) : FVec Ideal S128x256 .f32 :=
  attend h s v cv sk (far ck (queries p p')) (tile0 s w (nearby s k (queries p p'))) (tile1 s w (nearby s k (queries p p')))
    (tile2 (nearby s k (queries p p'))) (tile3 s w' (nearby s k (queries p p'))) (tile4 s w' (nearby s k (queries p p')))

/-- The key heads' units beside each other: 64 lanes of each. -/
def both (u u' : FVec Ideal S128x256 .f32) : FVec Ideal S128x256 .f32 :=
  select (cmpi .slt (iota .tc S128x256 32 [0] iota_S128x256_d0_w32) (broadcast S128x256 64#32)) u u'

theorem head_slices : ∀ g : Fin 4, S128x256.Slices ![0, g.val * 64] S128x64 := by decide

/-- Head `g`'s tile of a block's result: the half blocks one below the other. -/
def stored (g : Fin 4) (u00 u01 u10 u11 : FVec Ideal S128x256 .f32) : FVec Ideal S1x128x128 .bf16 :=
  shapeCast S1x128x128 (truncf .bf16 (transpose S128x128 [1, 0] (concatenate S128x128 1
    [⟨S128x64, extractStridedSlice S128x64 ![0, g.val * 64] (both u00 u01) (head_slices g)⟩,
     ⟨S128x64, extractStridedSlice S128x64 ![0, g.val * 64] (both u10 u11) (head_slices g)⟩]
    concatenates_S128x64_S128x64_S128x128_d1) transposes_S128x128_p1_0_S128x128) bitsLt_bf16_f32) shapeCasts_S128x128_S1x128x128

theorem q_inb : ∀ (s : Fin 32) (p : Fin 4) (a : Fin S1x2048x512.rank), (![0, s.val * 64, p.val * 128] : Fin 3 → ℕ) a + (![1, 64, 128] : Fin 3 → ℕ) a ≤ S1x2048x512.size a := by
  decide
theorem k_inb : ∀ (h : Fin 2) (a : Fin S1x128x256.rank), (![0, 0, h.val * 128] : Fin 3 → ℕ) a + (![1, 128, 128] : Fin 3 → ℕ) a ≤ S1x128x256.size a := by
  decide
theorem k_inb' : ∀ (h : Fin 2) (a : Fin S1x2048x256.rank), (![0, 0, h.val * 128] : Fin 3 → ℕ) a + (![1, 2048, 128] : Fin 3 → ℕ) a ≤ S1x2048x256.size a := by
  decide
theorem v_inb : ∀ (a : Fin S1x256x128.rank), (![0, 0, 0] : Fin 3 → ℕ) a + (![1, 256, 128] : Fin 3 → ℕ) a ≤ S1x256x128.size a := by
  decide
theorem v_inb' : ∀ (a : Fin S1x256x2048.rank), (![0, 0, 0] : Fin 3 → ℕ) a + (![1, 256, 2048] : Fin 3 → ℕ) a ≤ S1x256x2048.size a := by
  decide
theorem ck_inb : ∀ (h : Fin 2) (a : Fin S1x256x256.rank), (![0, 0, h.val * 128] : Fin 3 → ℕ) a + (![1, 256, 128] : Fin 3 → ℕ) a ≤ S1x256x256.size a := by
  decide
theorem cv_inb : ∀ (h : Fin 2) (a : Fin S1x256x256.rank), (![0, h.val * 128, 0] : Fin 3 → ℕ) a + (![1, 128, 256] : Fin 3 → ℕ) a ≤ S1x256x256.size a := by
  decide
theorem sink_inb : ∀ (g : Fin 8) (a : Fin S8.rank), (![g.val] : Fin 1 → ℕ) a + (![1] : Fin 1 → ℕ) a ≤ S8.size a := by
  decide

section

variable (i : grid0.Coords) (x0 : Vec Ideal S8 .f32) (x1 : Vec Ideal S1x2048x512 .f32) (x2 : Vec Ideal S1x128x256 .bf16)
  (x3 : Vec Ideal S1x2048x256 .bf16) (x4 : Vec Ideal S1x128x256 .bf16) (x5 : Vec Ideal S1x256x128 .bf16)
  (x6 : Vec Ideal S1x256x2048 .bf16) (x7 : Vec Ideal S1x256x128 .bf16) (x8 : Vec Ideal S1x256x256 .bf16) (x9 : Vec Ideal S1x256x256 .bf16)

def sinkOf (g : Fin 8) : EReal := View.ld x0 (Rect.unit ![g.val] ![1] (sink_inb g)) (Shape.Idx.first (show (0 : ℕ) < 1 from Nat.one_pos))

def queriesOf (s : Fin 32) (p : Fin 4) : Vec Ideal S1x64x128 .f32 :=
  View.ld x1 (Rect.unit ![0, s.val * 64, p.val * 128] ![1, 64, 128] (q_inb s p))

def keysOf (h : Fin 2) : FVec Ideal S2304x128 .bf16 :=
  keys (View.ld x2 (Rect.unit ![0, 0, h.val * 128] ![1, 128, 128] (k_inb h)))
    (View.ld x3 (Rect.unit ![0, 0, h.val * 128] ![1, 2048, 128] (k_inb' h)))
    (View.ld x4 (Rect.unit ![0, 0, h.val * 128] ![1, 128, 128] (k_inb h)))

def valuesOf : FVec Ideal S256x2304 .bf16 :=
  values (View.ld x5 (Rect.unit ![0, 0, 0] ![1, 256, 128] v_inb)) (View.ld x6 (Rect.unit ![0, 0, 0] ![1, 256, 2048] v_inb'))
    (View.ld x7 (Rect.unit ![0, 0, 0] ![1, 256, 128] v_inb))

/-- The unit of key head `h` and half block `s` at a grid point. -/
def unitOf (h : Fin 2) (s : Fin 32) : FVec Ideal S128x256 .f32 :=
  unit h s (Scalar.cmpi .sgt (BitVec.ofNat 32 (i 1).val) 0#32) (Scalar.cmpi .slt (BitVec.ofNat 32 (i 1).val) 3#32)
    (sinks (sinkOf x0 ⟨h.val * 4, by omega⟩) (sinkOf x0 ⟨h.val * 4 + 1, by omega⟩) (sinkOf x0 ⟨h.val * 4 + 2, by omega⟩) (sinkOf x0 ⟨h.val * 4 + 3, by omega⟩))
    (queriesOf x1 s ⟨h.val * 2, by omega⟩) (queriesOf x1 s ⟨h.val * 2 + 1, by omega⟩) (keysOf x2 x3 x4 h) (valuesOf x5 x6 x7)
    (View.ld x8 (Rect.unit ![0, 0, h.val * 128] ![1, 256, 128] (ck_inb h)))
    (View.ld x9 (Rect.unit ![0, h.val * 128, 0] ![1, 128, 256] (cv_inb h)))

/-- Head `g`'s tile of block `n`. -/
def outOf (n : Fin 16) (g : Fin 4) : FVec Ideal S1x128x128 .bf16 :=
  stored g (unitOf i x0 x1 x2 x3 x4 x5 x6 x7 x8 x9 0 ⟨n.val * 2, by omega⟩) (unitOf i x0 x1 x2 x3 x4 x5 x6 x7 x8 x9 1 ⟨n.val * 2, by omega⟩)
    (unitOf i x0 x1 x2 x3 x4 x5 x6 x7 x8 x9 0 ⟨n.val * 2 + 1, by omega⟩) (unitOf i x0 x1 x2 x3 x4 x5 x6 x7 x8 x9 1 ⟨n.val * 2 + 1, by omega⟩)

/-- The block of the result that a grid point writes, at a row and a lane. -/
def outAt (r : Fin 2048) (l : Fin 512) : EReal :=
  outOf i x0 x1 x2 x3 x4 x5 x6 x7 x8 x9 ⟨r.val / 128, by omega⟩ ⟨l.val / 128, by omega⟩ (ix3 0 ⟨r.val % 128, by omega⟩ ⟨l.val % 128, by omega⟩)

theorem outAt_of (n : Fin 16) (g : Fin 4) (x : S1x128x128.Idx) (r : Fin 2048) (l : Fin 512)
    (h1 : r.val = n.val * 128 + (x 1).val) (h2 : l.val = g.val * 128 + (x 2).val) :
    outOf i x0 x1 x2 x3 x4 x5 x6 x7 x8 x9 n g x = outAt i x0 x1 x2 x3 x4 x5 x6 x7 x8 x9 r l := by
  have hx1 : (x 1).val < 128 := (x 1).isLt
  have hx2 : (x 2).val < 128 := (x 2).isLt
  unfold outAt
  have hn : (⟨r.val / 128, by omega⟩ : Fin 16) = n := Fin.ext (by show r.val / 128 = n.val; omega)
  have hg : (⟨l.val / 128, by omega⟩ : Fin 4) = g := Fin.ext (by show l.val / 128 = g.val; omega)
  rw [hn, hg]
  refine congrArg _ (funext fun a => Fin.ext ?_)
  match a with
  | ⟨0, _⟩ => exact Nat.lt_one_iff.mp (x 0).isLt
  | ⟨1, _⟩ => show (x 1).val = r.val % 128; omega
  | ⟨2, _⟩ => show (x 2).val = l.val % 128; omega

end

end Cert.AttnIdeal.Tile

end
-- ==== Proof.AttnSoft.lean ====
/- The softmax of a row of scores with a sink, as the quotient of two sums of weights: the same quotient whatever finite
   number is subtracted from the scores first, and whether the exponential is taken to the base e or, of scores scaled by
   the inverse of log 2, to the base 2. -/
module

public import Idealize.ShloMosaic.PureOps.Ideal
public import Mathlib.Analysis.SpecialFunctions.Pow.Real
public import Mathlib.Algebra.BigOperators.Fin

@[expose] public section

noncomputable section

namespace AttnSoft

open Idealize.ShloMosaic

/-- The weight of a score: its exponential, nothing for a masked one. -/
def wt (x : EReal) : ℝ := (Ideal.exp x).toReal

theorem wt_bot : wt ⊥ = 0 := rfl

theorem wt_coe (x : ℝ) : wt x = Real.exp x := rfl

theorem wt_nonneg (x : EReal) : 0 ≤ wt x := by
  induction x with
  | bot => exact le_refl _
  | top => exact le_refl _
  | coe x => exact (Real.exp_pos x).le

theorem wt_pos {x : EReal} (h : x ≠ ⊤) (h' : x ≠ ⊥) : 0 < wt x := by
  lift x to ℝ using ⟨h, h'⟩
  exact Real.exp_pos x

/-- The inverse of log 2, the number of binary digits in a nat. -/
def bits : ℝ := (Real.log 2)⁻¹

theorem bits_pos : 0 < bits := inv_pos.mpr (Real.log_pos (by norm_num))

theorem two_rpow (x m : ℝ) : Real.rpow 2 (bits * x - m) = Real.exp x * Real.rpow 2 (-m) := by
  show (2 : ℝ) ^ (bits * x - m) = Real.exp x * (2 : ℝ) ^ (-m)
  have h : Real.log 2 ≠ 0 := (Real.log_pos (by norm_num)).ne'
  rw [sub_eq_add_neg, Real.rpow_add (by norm_num), Real.rpow_def_of_pos (by norm_num) (bits * x), bits,
    mul_inv_cancel_left₀ h]

theorem exp2_scaled {x : EReal} (h : x ≠ ⊤) (m : ℝ) :
    Ideal.exp2 ((bits : EReal) * x - m) = ((wt x * Real.rpow 2 (-m) : ℝ) : EReal) := by
  induction x with
  | bot =>
    rw [EReal.coe_mul_bot_of_pos bits_pos, EReal.bot_sub, wt_bot, zero_mul]
    rfl
  | top => exact absurd rfl h
  | coe x =>
    rw [← EReal.coe_mul, ← EReal.coe_sub, wt_coe, ← two_rpow]
    rfl

theorem exp_shifted {x : EReal} (h : x ≠ ⊤) (m : ℝ) :
    Ideal.exp (x - m) = ((wt x * Real.exp (-m) : ℝ) : EReal) := by
  induction x with
  | bot =>
    rw [EReal.bot_sub, wt_bot, zero_mul]
    rfl
  | top => exact absurd rfl h
  | coe x =>
    rw [← EReal.coe_sub, wt_coe, ← Real.exp_add, ← sub_eq_add_neg]
    rfl

theorem sum_mul_coe {ι : Type*} (s : Finset ι) (f : ι → EReal) {a : ℝ} (ha : 0 ≤ a) :
    ∑ i ∈ s, f i * (a : EReal) = (∑ i ∈ s, f i) * (a : EReal) := by
  classical
  induction s using Finset.induction_on with
  | empty => simp
  | insert i s hi ih =>
    rw [Finset.sum_insert hi, Finset.sum_insert hi, ih,
      EReal.right_distrib_of_nonneg_of_ne_top (EReal.coe_nonneg.mpr ha) (EReal.coe_ne_top a)]

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

variable {ι κ : Type} [Fintype ι] [Fintype κ]

/-- The sum of the weights of a row. -/
def total (sc : ι → EReal) (t : κ → EReal) (σ : EReal) : ℝ := ∑ c, wt (sc c) + ∑ k, wt (t k) + wt σ

/-- The weighted sum of the values over the sum of the weights. -/
def mean (sc : ι → EReal) (t : κ → EReal) (σ : EReal) (cv : ι → EReal) (v : κ → EReal) : EReal :=
  (∑ c, cv c * (wt (sc c) : EReal) + ∑ k, v k * (wt (t k) : EReal)) * ((1 / total sc t σ : ℝ) : EReal)

theorem total_pos (sc : ι → EReal) (t : κ → EReal) {σ : EReal} (h : σ ≠ ⊤) (h' : σ ≠ ⊥) : 0 < total sc t σ :=
  add_pos_of_nonneg_of_pos
    (add_nonneg (Finset.sum_nonneg fun c _ => wt_nonneg _) (Finset.sum_nonneg fun k _ => wt_nonneg _)) (wt_pos h h')

theorem weighted (f : ι → EReal) (w : ι → ℝ) {a : ℝ} (ha : 0 ≤ a) :
    ∑ c, f c * ((w c * a : ℝ) : EReal) = (∑ c, f c * (w c : EReal)) * (a : EReal) := by
  rw [← sum_mul_coe _ _ ha]
  exact Finset.sum_congr rfl fun c _ => by rw [EReal.coe_mul, mul_assoc]

/-- The quotient of a scaled numerator and an equally scaled denominator. -/
theorem scaled_quotient (n : EReal) {w a : ℝ} (hw : 0 < w) (ha : 0 < a) :
    Ideal.div (n * (a : EReal)) ((w * a : ℝ) : EReal) = n * ((1 / w : ℝ) : EReal) := by
  rw [Ideal.div_coe (mul_pos hw ha).ne', mul_assoc, ← EReal.coe_mul]
  congr 2
  field_simp

/-- A row whose numerator and denominator are accumulated apart, in base 2 with any finite shift. -/
theorem base_two (sc : ι → EReal) (t : κ → EReal) (σ : EReal) (cv : ι → EReal) (v : κ → EReal) (m : ℝ)
    (hc : ∀ c, sc c ≠ ⊤) (ht : ∀ k, t k ≠ ⊤) (hs : σ ≠ ⊤) (hs' : σ ≠ ⊥) :
    Ideal.div (∑ c, cv c * Ideal.exp2 ((bits : EReal) * sc c - m) + ∑ k, v k * Ideal.exp2 ((bits : EReal) * t k - m))
      (∑ c, 1 * Ideal.exp2 ((bits : EReal) * sc c - m) + ∑ k, 1 * Ideal.exp2 ((bits : EReal) * t k - m)
        + Ideal.exp2 ((bits : EReal) * σ - m)) = mean sc t σ cv v := by
  have ha : 0 < Real.rpow 2 (-m) := Real.rpow_pos_of_pos (by norm_num) _
  simp only [exp2_scaled (hc _), exp2_scaled (ht _), exp2_scaled hs, one_mul]
  rw [weighted _ _ ha.le, weighted _ _ ha.le,
    ← EReal.right_distrib_of_nonneg_of_ne_top (EReal.coe_nonneg.mpr ha.le) (EReal.coe_ne_top _),
    ← coe_sum, ← coe_sum, ← EReal.coe_add, ← EReal.coe_add, ← Finset.sum_mul, ← Finset.sum_mul, ← add_mul, ← add_mul]
  exact scaled_quotient _ (total_pos sc t hs hs') ha

/-- A row whose probabilities are divided out before the values are weighted, in base e with any finite shift. -/
theorem base_e (sc : ι → EReal) (t : κ → EReal) (σ : EReal) (cv : ι → EReal) (v : κ → EReal) (m : ℝ) (d : EReal)
    (hc : ∀ c, sc c ≠ ⊤) (ht : ∀ k, t k ≠ ⊤) (hs : σ ≠ ⊤) (hs' : σ ≠ ⊥)
    (hd : d = ∑ k, Ideal.exp (t k - m) + ∑ c, Ideal.exp (sc c - m) + Ideal.exp (σ - m)) :
    ∑ k, v k * Ideal.div (Ideal.exp (t k - m)) d + ∑ c, cv c * Ideal.div (Ideal.exp (sc c - m)) d
      = mean sc t σ cv v := by
  have hw := total_pos sc t hs hs'
  have hd' : d = ((total sc t σ * Real.exp (-m) : ℝ) : EReal) := by
    rw [hd]
    simp only [exp_shifted (hc _), exp_shifted (ht _), exp_shifted hs]
    rw [← coe_sum, ← coe_sum, ← EReal.coe_add, ← EReal.coe_add, ← Finset.sum_mul, ← Finset.sum_mul, ← add_mul,
      ← add_mul, total, add_comm (∑ k, wt (t k))]
  have hq (x : EReal) (hx : x ≠ ⊤) : Ideal.div (Ideal.exp (x - m)) d = ((wt x * (1 / total sc t σ) : ℝ) : EReal) := by
    rw [exp_shifted hx, hd', EReal.coe_mul (wt x), scaled_quotient _ hw (Real.exp_pos _), ← EReal.coe_mul]
  simp only [hq _ (hc _), hq _ (ht _)]
  rw [weighted _ _ (one_div_pos.mpr hw).le, weighted _ _ (one_div_pos.mpr hw).le,
    ← EReal.right_distrib_of_nonneg_of_ne_top (EReal.coe_nonneg.mpr (one_div_pos.mpr hw).le) (EReal.coe_ne_top _),
    mean, add_comm (∑ c, cv c * _)]

/-- A window of the keys gives the same mean as all of them when the others are masked, and the values may differ where
    the key is masked. -/
theorem mean_window {κ' : Type} [Fintype κ'] (sc : ι → EReal) (t : κ → EReal) (t' : κ' → EReal) (σ : EReal)
    (cv : ι → EReal) (v : κ → EReal) (v' : κ' → EReal) (e : κ' → κ) (he : Function.Injective e)
    (ht : ∀ k, t' k = t (e k)) (hv : ∀ k, t (e k) ≠ ⊥ → v' k = v (e k)) (hm : ∀ k, (∀ k', e k' ≠ k) → t k = ⊥) :
    mean sc t' σ cv v' = mean sc t σ cv v := by
  have h1 : ∑ k, wt (t' k) = ∑ k, wt (t k) :=
    Finset.sum_of_injOn e he.injOn (fun _ _ => Finset.mem_univ _)
      (fun k _ hk => by rw [hm k fun k' h => hk ⟨k', Finset.mem_coe.mpr (Finset.mem_univ _), h⟩, wt_bot])
      fun k _ => by rw [ht]
  have h2 : ∑ k, v' k * (wt (t' k) : EReal) = ∑ k, v k * (wt (t k) : EReal) :=
    Finset.sum_of_injOn e he.injOn (fun _ _ => Finset.mem_univ _)
      (fun k _ hk => by
        rw [hm k fun k' h => hk ⟨k', Finset.mem_coe.mpr (Finset.mem_univ _), h⟩, wt_bot, EReal.coe_zero, mul_zero])
      fun k _ => by
        rw [ht]
        by_cases hb : t (e k) = ⊥
        · rw [hb, wt_bot, EReal.coe_zero, mul_zero, mul_zero]
        · rw [hv k hb]
  rw [mean, mean, total, total, h1, h2]

end AttnSoft

end
-- ==== Proof.AttnUnitRow.lean ====
/- A unit of the local attention kernel at an index: the mean of the values, weighted by the scores. -/
module

public import proofs.«01_k».proof.Proof.AttnUnit
public import proofs.«01_k».proof.Proof.AttnSoft

@[expose] public section

set_option maxRecDepth 16384

noncomputable section

namespace Cert.AttnIdeal.Tile

open Idealize Idealize.ShloMosaic Cert.AttnIdeal Cert.AttnIdeal.Gen AttnSoft

theorem scale_eq : Named.named (F := Ideal) Cert.AttnIdeal.κ "scale" (φ := .f32) 0x3E38AA3B#32 = ((1 / 8 * bits : ℝ) : EReal) :=
  IdealRules.named_const.ideal_named_scalar _ _ _ _ rfl

theorem log2e_eq : Named.named (F := Ideal) Cert.AttnIdeal.κ "log2e" (φ := .f32) 0x3FB8AA3B#32 = (bits : EReal) :=
  IdealRules.named_const.ideal_named_scalar _ _ _ _ rfl

theorem mask_eq : Named.named (F := Ideal) Cert.AttnIdeal.κ "mask" (φ := .f32) 0xF149F2CA#32 = (⊥ : EReal) :=
  IdealRules.named_const.ideal_named_scalar _ _ _ _ rfl

theorem select_bool {α : Type} (p : Prop) [Decidable p] (a b : α) :
    Scalar.select (BitVec.ofBool (decide p)) a b = if p then a else b := by
  by_cases h : p
  · rw [if_pos h, decide_eq_true h]; rfl
  · rw [if_neg h, decide_eq_false h]; rfl

theorem lane_slt : ∀ q : Fin 256, IntOp.cmpi .slt (BitVec.ofNat 32 q.val) 64#32 = BitVec.ofBool (decide (q.val < 64))
    ∧ IntOp.cmpi .slt (BitVec.ofNat 32 q.val) 128#32 = BitVec.ofBool (decide (q.val < 128))
    ∧ IntOp.cmpi .slt (BitVec.ofNat 32 q.val) 192#32 = BitVec.ofBool (decide (q.val < 192)) := by
  decide +kernel

theorem lane_half : ∀ l : Fin 128, IntOp.cmpi .slt (BitVec.ofNat 32 l.val) 64#32 = BitVec.ofBool (decide (l.val < 64))
    ∧ IntOp.cmpi .sge (BitVec.ofNat 32 l.val) 64#32 = BitVec.ofBool (decide (64 ≤ l.val)) := by
  decide +kernel

theorem place_bit : ∀ q : Fin 256, IntOp.andi (BitVec.ofNat 32 q.val) 63#32 = BitVec.ofNat 32 (q.val % 64) := by
  decide +kernel

theorem row_bit : ∀ a p : Fin 64, IntOp.cmpi .sge (BitVec.ofNat 32 a.val) (BitVec.ofNat 32 p.val) = BitVec.ofBool (decide (p.val ≤ a.val))
    ∧ IntOp.cmpi .sle (BitVec.ofNat 32 a.val) (BitVec.ofNat 32 p.val) = BitVec.ofBool (decide (a.val ≤ p.val)) := by
  decide +kernel

/-! ## The queries -/

theorem low_at (p : Vec Ideal S1x64x128 .f32) (a : Fin 64) (l : Fin 128) :
    lowHead p (ix2 a l) = if l.val < 64 then p (ix3 0 a l) else 0 := by
  pointwise [lowHead]
  rw [(lane_half l).1, select_bool]

theorem high_at (p : Vec Ideal S1x64x128 .f32) (a : Fin 64) (l : Fin 128) :
    highHead p (ix2 a l) = if 64 ≤ l.val then p (ix3 0 a l) else 0 := by
  pointwise [highHead]
  rw [(lane_half l).2, select_bool]

/-- The query of column `q`, in lanes of the pair of heads that it comes from. -/
def query (p p' : Vec Ideal S1x64x128 .f32) (q : Fin 256) (l : Fin 128) : EReal :=
  (if q.val / 64 < 2 then p else p') (ix3 0 ⟨q.val % 64, by omega⟩ l)

theorem queries_at (p p' : Vec Ideal S1x64x128 .f32) (q : Fin 256) (l : Fin 128) :
    queries p p' (ix2 q l) = (if l.val / 64 = q.val / 64 % 2 then query p p' q l else 0) * ((1 / 8 * bits : ℝ) : EReal) := by
  have h1 := low_at p
  have h2 := low_at p'
  have h3 := high_at p
  have h4 := high_at p'
  unfold queries
  generalize lowHead p = y1 at h1
  generalize lowHead p' = y2 at h2
  generalize highHead p = y3 at h3
  generalize highHead p' = y4 at h4
  pointwise
  rw [scale_eq]
  refine congrArg (· * _) ?_
  simp only [h1, h2, h3, h4]
  unfold query
  have hl := l.isLt
  have hq := q.isLt
  by_cases c1 : q.val < 64
  · rw [dif_pos c1, if_pos (show q.val / 64 < 2 by omega)]
    refine if_congr (by omega) (congrArg (fun a => p (ix3 0 a l)) (Fin.ext (by show q.val = q.val % 64; omega))) rfl
  rw [dif_neg c1]
  by_cases c2 : q.val - 64 < 64
  · rw [dif_pos c2, if_pos (show q.val / 64 < 2 by omega)]
    refine if_congr (by omega) (congrArg (fun a => p (ix3 0 a l)) (Fin.ext (by show q.val - 64 = q.val % 64; omega))) rfl
  rw [dif_neg c2]
  by_cases c3 : q.val - 64 - 64 < 64
  · rw [dif_pos c3, if_neg (show ¬ q.val / 64 < 2 by omega)]
    refine if_congr (by omega) (congrArg (fun a => p' (ix3 0 a l)) (Fin.ext (by show q.val - 64 - 64 = q.val % 64; omega))) rfl
  · rw [dif_neg c3, if_neg (show ¬ q.val / 64 < 2 by omega)]
    refine if_congr (by omega) (congrArg (fun a => p' (ix3 0 a l)) (Fin.ext (by show q.val - 64 - 64 - 64 = q.val % 64; omega))) rfl

/-- The lanes of one head of a pair. -/
def lane (e : ℕ) (he : e < 2) (d : Fin 64) : Fin 128 := ⟨e * 64 + d.val, by omega⟩

/-- A product over both heads' lanes with one head's kept. -/
theorem one_head (e : ℕ) (he : e < 2) (k w : Fin 128 → EReal) :
    ∑ l, k l * ((if l.val / 64 = e then w l else 0) * ((1 / 8 * bits : ℝ) : EReal))
      = (bits : EReal) * ((∑ d, k (lane e he d) * w (lane e he d)) * ((1 / 8 : ℝ) : EReal)) := by
  have h1 : ∑ l, k l * ((if l.val / 64 = e then w l else 0) * ((1 / 8 * bits : ℝ) : EReal))
      = ∑ d, k (lane e he d) * w (lane e he d) * ((1 / 8 * bits : ℝ) : EReal) := by
    rw [Fin.sum_univ_add (a := 64) (b := 64)]
    have hz : ∀ l : Fin 128, l.val / 64 ≠ e →
        k l * ((if l.val / 64 = e then w l else 0) * ((1 / 8 * bits : ℝ) : EReal)) = 0 := fun l hl => by
      rw [if_neg hl, zero_mul, mul_zero]
    have hp : ∀ l : Fin 128, l.val / 64 = e → ∀ d : Fin 64, l = lane e he d →
        k l * ((if l.val / 64 = e then w l else 0) * ((1 / 8 * bits : ℝ) : EReal))
          = k (lane e he d) * w (lane e he d) * ((1 / 8 * bits : ℝ) : EReal) := fun l hl d hd => by
      rw [if_pos hl, hd, mul_assoc]
    obtain rfl | rfl : e = 0 ∨ e = 1 := by omega
    · rw [Finset.sum_eq_zero (s := Finset.univ) (f := fun i : Fin 64 => _) fun i _ => hz (Fin.natAdd 64 i) (by show (64 + i.val) / 64 ≠ 0; omega), add_zero]
      exact Finset.sum_congr rfl fun d _ => hp _ (by show d.val / 64 = 0; omega) d (Fin.ext (by show d.val = 0 * 64 + d.val; omega))
    · rw [Finset.sum_eq_zero (s := Finset.univ) (f := fun i : Fin 64 => _) fun i _ => hz (Fin.castAdd 64 i) (by show i.val / 64 ≠ 1; omega), zero_add]
      exact Finset.sum_congr rfl fun d _ => hp _ (by show (64 + d.val) / 64 = 1; omega) d (Fin.ext (by show 64 + d.val = 1 * 64 + d.val; omega))
  rw [h1, sum_mul_coe _ _ (mul_nonneg (by norm_num) bits_pos.le), EReal.coe_mul, ← mul_assoc, mul_comm]

/-- The score of column `q`'s query against a key. -/
def dotted (p p' : Vec Ideal S1x64x128 .f32) (q : Fin 256) (k : Fin 128 → EReal) : EReal :=
  (∑ d, k (lane (q.val / 64 % 2) (by omega) d) * query p p' q (lane (q.val / 64 % 2) (by omega) d)) * ((1 / 8 : ℝ) : EReal)

theorem far_at (ck : Vec Ideal S1x256x128 .bf16) (p p' : Vec Ideal S1x64x128 .f32) (c q : Fin 256) :
    far ck (queries p p') (ix2 c q) = (bits : EReal) * dotted p p' q fun l => ck (ix3 0 c l) := by
  have hq := queries_at p p'
  generalize queries p p' = x at hq
  pointwise [far]
  simp only [hq]
  exact one_head _ _ _ _

theorem nearby_at (s : Fin 32) (k : FVec Ideal S2304x128 .bf16) (p p' : Vec Ideal S1x64x128 .f32) (j : Fin 320) (q : Fin 256) :
    nearby s k (queries p p') (ix2 j q)
      = (bits : EReal) * dotted p p' q fun l => k (ix2 ⟨s.val * 64 + j.val, by omega⟩ l) := by
  have hq := queries_at p p'
  generalize queries p p' = x at hq
  pointwise [nearby]
  simp only [hq]
  exact one_head _ _ _ _

/-! ## The masks -/

theorem place_at (a : Fin 64) (q : Fin 256) : place (ix2 a q) = BitVec.ofNat 32 (q.val % 64) := by
  pointwise [place]
  exact place_bit q

theorem fromPlace_at (x : FVec Ideal S64x256 .f32) (a : Fin 64) (q : Fin 256) :
    fromPlace x (ix2 a q) = if q.val % 64 ≤ a.val then x (ix2 a q) else ⊥ := by
  have h := place_at
  unfold fromPlace
  generalize place = y at h
  pointwise [masked]
  rw [h, (row_bit a ⟨q.val % 64, by omega⟩).1, select_bool, mask_eq]

theorem toPlace_at (x : FVec Ideal S64x256 .f32) (a : Fin 64) (q : Fin 256) :
    toPlace x (ix2 a q) = if a.val ≤ q.val % 64 then x (ix2 a q) else ⊥ := by
  have h := place_at
  unfold toPlace
  generalize place = y at h
  pointwise [masked]
  rw [h, (row_bit a ⟨q.val % 64, by omega⟩).2, select_bool, mask_eq]

theorem edge_at (n m : ℕ) (w : BitVec 1) (x : FVec Ideal S64x256 .f32) (a : Fin 64) (q : Fin 256) :
    edge (Nat.ble n m) w x (ix2 a q) = if n ≤ m → w = 1#1 then x (ix2 a q) else ⊥ := by
  have hm : masked (ix2 a q) = (⊥ : EReal) := mask_eq
  unfold edge
  by_cases h : n ≤ m
  · rw [Nat.ble_eq.mpr h]
    by_cases hw : w = 1#1
    · rw [if_pos fun _ => hw, hw]; rfl
    · rw [if_neg fun c => hw (c h)]
      obtain rfl : w = 0#1 := by revert hw; revert w; decide
      exact hm
  · rw [Bool.eq_false_iff.mpr fun c => h (Nat.ble_eq.mp c), if_pos fun c => absurd c h]
    rfl

/-- Column `q` of half block `s` sees local key `j`: within 128 places, and in a block that is there. -/
def seen (s : Fin 32) (w w' : BitVec 1) (q : Fin 256) (j : Fin 320) : Prop :=
  (q.val % 64 ≤ j.val ∧ j.val ≤ q.val % 64 + 256)
    ∧ (s.val * 64 + j.val < 128 → w = 1#1) ∧ (2176 ≤ s.val * 64 + j.val → w' = 1#1)

instance (s : Fin 32) (w w' : BitVec 1) (q : Fin 256) (j : Fin 320) : Decidable (seen s w w' q j) := by
  unfold seen; infer_instance

/-- The five masked tiles as one column. -/
def column (s : Fin 32) (w w' : BitVec 1) (x : FVec Ideal S320x256 .f32) (q : Fin 256) (j : Fin 320) : EReal :=
  if seen s w w' q j then x (ix2 j q) else ⊥

section

variable (s : Fin 32) (w w' : BitVec 1) (x : FVec Ideal S320x256 .f32) (a : Fin 64) (q : Fin 256)

theorem part0 : part 0 x (ix2 a q) = x (ix2 ⟨a.val, by omega⟩ q) := by
  pointwise [part]
theorem part1 : part 1 x (ix2 a q) = x (ix2 ⟨64 + a.val, by omega⟩ q) := by
  pointwise [part]
theorem part2 : part 2 x (ix2 a q) = x (ix2 ⟨128 + a.val, by omega⟩ q) := by
  pointwise [part]
theorem part3 : part 3 x (ix2 a q) = x (ix2 ⟨192 + a.val, by omega⟩ q) := by
  pointwise [part]
theorem part4 : part 4 x (ix2 a q) = x (ix2 ⟨256 + a.val, by omega⟩ q) := by
  pointwise [part]

theorem tile0_at : tile0 s w (x) (ix2 a q) = column s w w' x q ⟨a.val, by omega⟩ := by
  unfold tile0 column
  rw [edge_at, fromPlace_at, part0, ← ite_and]
  have ha := a.isLt
  have hs := s.isLt
  refine if_congr ⟨fun h => ⟨⟨h.2, by show a.val ≤ q.val % 64 + 256; omega⟩, fun hj => h.1 ?_, fun hj => absurd hj ?_⟩, fun h => ⟨fun c => h.2.1 ?_, h.1.1⟩⟩ rfl rfl
  · change s.val * 64 + a.val < 128 at hj; omega
  · show ¬ 2176 ≤ s.val * 64 + a.val; omega
  · show s.val * 64 + a.val < 128; omega

theorem tile1_at : tile1 s w (x) (ix2 a q) = column s w w' x q ⟨64 + a.val, by omega⟩ := by
  unfold tile1 column
  rw [edge_at, part1]
  have ha := a.isLt
  have hs := s.isLt
  refine if_congr ⟨fun h => ⟨⟨by show q.val % 64 ≤ 64 + a.val; omega, by show 64 + a.val ≤ q.val % 64 + 256; omega⟩, fun hj => h ?_, fun hj => absurd hj ?_⟩, fun h => fun c => h.2.1 ?_⟩ rfl rfl
  · change s.val * 64 + (64 + a.val) < 128 at hj; omega
  · show ¬ 2176 ≤ s.val * 64 + (64 + a.val); omega
  · show s.val * 64 + (64 + a.val) < 128; omega

theorem tile2_at : tile2 x (ix2 a q) = column s w w' x q ⟨128 + a.val, by omega⟩ := by
  unfold tile2 column
  have ha := a.isLt
  have hs := s.isLt
  have hc : seen s w w' q ⟨128 + a.val, by omega⟩ := by
    refine ⟨⟨by show q.val % 64 ≤ 128 + a.val; omega, by show 128 + a.val ≤ q.val % 64 + 256; omega⟩, fun hj => ?_, fun hj => ?_⟩
    · change s.val * 64 + (128 + a.val) < 128 at hj; omega
    · change 2176 ≤ s.val * 64 + (128 + a.val) at hj; omega
  rw [part2, if_pos hc]

theorem tile3_at : tile3 s w' (x) (ix2 a q) = column s w w' x q ⟨192 + a.val, by omega⟩ := by
  unfold tile3 column
  rw [edge_at, part3]
  have ha := a.isLt
  have hs := s.isLt
  refine if_congr ⟨fun h => ⟨⟨by show q.val % 64 ≤ 192 + a.val; omega, by show 192 + a.val ≤ q.val % 64 + 256; omega⟩, fun hj => absurd hj ?_, fun hj => h ?_⟩, fun h => fun c => h.2.2 ?_⟩ rfl rfl
  · show ¬ s.val * 64 + (192 + a.val) < 128; omega
  · change 2176 ≤ s.val * 64 + (192 + a.val) at hj; omega
  · show 2176 ≤ s.val * 64 + (192 + a.val); omega

theorem tile4_at : tile4 s w' (x) (ix2 a q) = column s w w' x q ⟨256 + a.val, by omega⟩ := by
  unfold tile4 column
  rw [edge_at, toPlace_at, part4, ← ite_and]
  have ha := a.isLt
  have hs := s.isLt
  refine if_congr ⟨fun h => ⟨⟨by show q.val % 64 ≤ 256 + a.val; omega, by show 256 + a.val ≤ q.val % 64 + 256; have := h.2; omega⟩, fun hj => absurd hj ?_, fun hj => h.1 ?_⟩, fun h => ⟨fun c => h.2.2 ?_, ?_⟩⟩ rfl rfl
  · show ¬ s.val * 64 + (256 + a.val) < 128; omega
  · change 2176 ≤ s.val * 64 + (256 + a.val) at hj; omega
  · show 2176 ≤ s.val * 64 + (256 + a.val); omega
  · have := h.1.2
    change 256 + a.val ≤ q.val % 64 + 256 at this
    omega

end

/-! ## The sinks and the largest score -/

/-- Column `q`'s head's sink. -/
def sunk (e0 e1 e2 e3 : EReal) (q : Fin 256) : EReal :=
  if q.val < 64 then e0 else if q.val < 128 then e1 else if q.val < 192 then e2 else e3

theorem sinks_at (e0 e1 e2 e3 : EReal) (q : Fin 256) : sinks e0 e1 e2 e3 (ix2 0 q) = (bits : EReal) * sunk e0 e1 e2 e3 q := by
  pointwise [sinks]
  rw [(lane_slt q).1, (lane_slt q).2.1, (lane_slt q).2.2, log2e_eq]
  simp only [select_bool]
  unfold sunk
  split
  · exact mul_comm _ _
  · split
    · exact mul_comm _ _
    · split <;> exact mul_comm _ _

theorem top_lt (x : FVec Ideal S64x256 .f32) (q : Fin 256) (h : ∀ a, x (ix2 a q) ≠ ⊤) : top x (ix2 0 q) < (⊤ : EReal) := by
  pointwise [top]
  exact (Finset.fold_max_lt _).mpr ⟨bot_lt_top, fun a _ => lt_top_iff_ne_top.mpr (h a)⟩

theorem topFar_lt (x : FVec Ideal S256x256 .f32) (q : Fin 256) (h : ∀ a, x (ix2 a q) ≠ ⊤) : topFar x (ix2 0 q) < (⊤ : EReal) := by
  pointwise [topFar]
  exact (Finset.fold_max_lt _).mpr ⟨bot_lt_top, fun a _ => lt_top_iff_ne_top.mpr (h a)⟩

theorem peak_real (sk : FVec Ideal S1x256 .f32) (c : FVec Ideal S256x256 .f32) (t0 t1 t2 t3 t4 : FVec Ideal S64x256 .f32) (q : Fin 256)
    (hs : sk (ix2 0 q) ≠ (⊤ : EReal)) (hs' : sk (ix2 0 q) ≠ (⊥ : EReal)) (hc : ∀ a, c (ix2 a q) ≠ ⊤) (h0 : ∀ a, t0 (ix2 a q) ≠ ⊤)
    (h1 : ∀ a, t1 (ix2 a q) ≠ ⊤) (h2 : ∀ a, t2 (ix2 a q) ≠ ⊤) (h3 : ∀ a, t3 (ix2 a q) ≠ ⊤) (h4 : ∀ a, t4 (ix2 a q) ≠ ⊤) :
    ∃ m : ℝ, peak sk c t0 t1 t2 t3 t4 (ix2 0 q) = (m : EReal) := by
  have e0 := top_lt t0 q h0
  have e1 := top_lt t1 q h1
  have e2 := top_lt t2 q h2
  have e3 := top_lt t3 q h3
  have e4 := top_lt t4 q h4
  have ec := topFar_lt c q hc
  have hlt : peak sk c t0 t1 t2 t3 t4 (ix2 0 q) < (⊤ : EReal) :=
    max_lt (max_lt (max_lt (max_lt (max_lt (max_lt (lt_top_iff_ne_top.mpr hs) ec) e0) e1) e2) e3) e4
  have hgt : (⊥ : EReal) < peak sk c t0 t1 t2 t3 t4 (ix2 0 q) :=
    lt_max_of_lt_left (lt_max_of_lt_left (lt_max_of_lt_left (lt_max_of_lt_left (lt_max_of_lt_left (lt_max_of_lt_left (bot_lt_iff_ne_bot.mpr hs'))))))
  exact ⟨_, (EReal.coe_toReal hlt.ne hgt.ne').symm⟩

/-! ## The weighted values -/

theorem lift_at (x : FVec Ideal S64x256 .f32) (m : FVec Ideal S1x256 .f32) (a : Fin 64) (q : Fin 256) :
    lift x m (ix2 a q) = Ideal.exp2 (x (ix2 a q) - m (ix2 0 q)) := by
  pointwise [lift]
  rfl

section

variable (h : Fin 2) (s : Fin 32) (v : FVec Ideal S256x2304 .bf16) (cv : Vec Ideal S1x128x256 .bf16)
  (m : FVec Ideal S1x256 .f32) (c : FVec Ideal S256x256 .f32) (t0 t1 t2 t3 t4 : FVec Ideal S64x256 .f32) (q : Fin 256) (t : Fin 320 → EReal)
  (h0 : ∀ a : Fin 64, t0 (ix2 a q) = t ⟨a.val, by omega⟩) (h1 : ∀ a : Fin 64, t1 (ix2 a q) = t ⟨64 + a.val, by omega⟩)
  (h2 : ∀ a : Fin 64, t2 (ix2 a q) = t ⟨128 + a.val, by omega⟩) (h3 : ∀ a : Fin 64, t3 (ix2 a q) = t ⟨192 + a.val, by omega⟩)
  (h4 : ∀ a : Fin 64, t4 (ix2 a q) = t ⟨256 + a.val, by omega⟩)

include h0 h1 h2 h3 h4 in
theorem weigh_at (r : Fin 128) : weigh h s v cv m c t0 t1 t2 t3 t4 (ix2 r q)
    = ∑ k, cv (ix3 0 r k) * Ideal.exp2 (c (ix2 k q) - m (ix2 0 q))
      + ∑ j : Fin 320, v (ix2 ⟨h.val * 128 + r.val, by omega⟩ ⟨s.val * 64 + j.val, by omega⟩) * Ideal.exp2 (t j - m (ix2 0 q)) := by
  have l0 := fun a => (lift_at t0 m a q).trans (congrArg (fun e => Ideal.exp2 (e - m (ix2 0 q))) (h0 a))
  have l1 := fun a => (lift_at t1 m a q).trans (congrArg (fun e => Ideal.exp2 (e - m (ix2 0 q))) (h1 a))
  have l2 := fun a => (lift_at t2 m a q).trans (congrArg (fun e => Ideal.exp2 (e - m (ix2 0 q))) (h2 a))
  have l3 := fun a => (lift_at t3 m a q).trans (congrArg (fun e => Ideal.exp2 (e - m (ix2 0 q))) (h3 a))
  have l4 := fun a => (lift_at t4 m a q).trans (congrArg (fun e => Ideal.exp2 (e - m (ix2 0 q))) (h4 a))
  unfold weigh
  generalize lift t0 m = y0 at l0
  generalize lift t1 m = y1 at l1
  generalize lift t2 m = y2 at l2
  generalize lift t3 m = y3 at l3
  generalize lift t4 m = y4 at l4
  pointwise
  refine congrArg₂ (· + ·) rfl (Finset.sum_congr rfl fun j _ => congrArg (_ * ·) ?_)
  have hj := j.isLt
  have fin : ∀ k : Fin 320, k.val = j.val → Ideal.exp2 (t k - m (ix2 0 q)) = Ideal.exp2 (t j - m (ix2 0 q)) := fun k hk => by
    rw [Fin.ext hk]
  by_cases c0 : j.val < 64
  · rw [dif_pos c0]; exact (l0 _).trans (fin _ rfl)
  rw [dif_neg c0]
  by_cases c1 : j.val - 64 < 64
  · rw [dif_pos c1]; exact (l1 _).trans (fin _ (by show 64 + (j.val - 64) = j.val; omega))
  rw [dif_neg c1]
  by_cases c2 : j.val - 64 - 64 < 64
  · rw [dif_pos c2]; exact (l2 _).trans (fin _ (by show 128 + (j.val - 64 - 64) = j.val; omega))
  rw [dif_neg c2]
  by_cases c3 : j.val - 64 - 64 - 64 < 64
  · rw [dif_pos c3]; exact (l3 _).trans (fin _ (by show 192 + (j.val - 64 - 64 - 64) = j.val; omega))
  · rw [dif_neg c3]; exact (l4 _).trans (fin _ (by show 256 + (j.val - 64 - 64 - 64 - 64) = j.val; omega))

end

theorem share_at (h : Fin 2) (sk m : FVec Ideal S1x256 .f32) (acc : FVec Ideal S128x256 .f32) (r : Fin 128) (q : Fin 256) :
    share h sk m acc (ix2 r q) = Ideal.div (acc (ix2 r q))
      (acc (ix2 ⟨64 - h.val * 64, by omega⟩ q) + Ideal.exp2 (sk (ix2 0 q) - m (ix2 0 q))) := by
  pointwise [share]
  rfl

theorem scaled_ne_top {x : EReal} (h : x ≠ ⊤) : (bits : EReal) * x ≠ ⊤ := by
  induction x with
  | bot => rw [EReal.coe_mul_bot_of_pos bits_pos]; exact bot_ne_top
  | top => exact absurd rfl h
  | coe x => rw [← EReal.coe_mul]; exact EReal.coe_ne_top _

theorem scaled_ne_bot {x : EReal} (h : x ≠ ⊥) : (bits : EReal) * x ≠ ⊥ := by
  induction x with
  | bot => exact absurd rfl h
  | top => rw [EReal.coe_mul_top_of_pos bits_pos]; exact top_ne_bot
  | coe x => rw [← EReal.coe_mul]; exact EReal.coe_ne_bot _

/-- A unit's score against local key `j`, nothing where the column does not see it. -/
def local_score (s : Fin 32) (w w' : BitVec 1) (p p' : Vec Ideal S1x64x128 .f32) (k : FVec Ideal S2304x128 .bf16) (q : Fin 256)
    (j : Fin 320) : EReal :=
  if seen s w w' q j then dotted p p' q fun l => k (ix2 ⟨s.val * 64 + j.val, by omega⟩ l) else ⊥

theorem column_scaled (s : Fin 32) (w w' : BitVec 1) (p p' : Vec Ideal S1x64x128 .f32) (k : FVec Ideal S2304x128 .bf16) (q : Fin 256)
    (j : Fin 320) : column s w w' (nearby s k (queries p p')) q j = (bits : EReal) * local_score s w w' p p' k q j := by
  unfold column local_score
  split
  · exact nearby_at s k p p' j q
  · exact (EReal.coe_mul_bot_of_pos bits_pos).symm

/-- A unit at row `r` and column `q`. -/
theorem unit_at (h : Fin 2) (s : Fin 32) (w w' : BitVec 1) (e0 e1 e2 e3 : EReal) (p p' : Vec Ideal S1x64x128 .f32)
    (k : FVec Ideal S2304x128 .bf16) (v : FVec Ideal S256x2304 .bf16) (ck : Vec Ideal S1x256x128 .bf16)
    (cv : Vec Ideal S1x128x256 .bf16) (r : Fin 128) (q : Fin 256)
    (hv : ∀ j, v (ix2 ⟨h.val * 128 + (64 - h.val * 64), by omega⟩ j) = (1 : EReal))
    (hcv : ∀ c, cv (ix3 0 ⟨64 - h.val * 64, by omega⟩ c) = (1 : EReal))
    (hs : sunk e0 e1 e2 e3 q ≠ ⊤) (hs' : sunk e0 e1 e2 e3 q ≠ ⊥)
    (hf : ∀ c, dotted p p' q (fun l => ck (ix3 0 c l)) ≠ ⊤) (hn : ∀ j, local_score s w w' p p' k q j ≠ ⊤) :
    unit h s w w' (sinks e0 e1 e2 e3) p p' k v ck cv (ix2 r q)
      = mean (fun c => dotted p p' q fun l => ck (ix3 0 c l)) (local_score s w w' p p' k q) (sunk e0 e1 e2 e3 q)
          (fun c => cv (ix3 0 r c)) (fun j : Fin 320 => v (ix2 ⟨h.val * 128 + r.val, by omega⟩ ⟨s.val * 64 + j.val, by omega⟩)) := by
  have a0 := fun a => (tile0_at s w w' (nearby s k (queries p p')) a q).trans (column_scaled s w w' p p' k q _)
  have a1 := fun a => (tile1_at s w w' (nearby s k (queries p p')) a q).trans (column_scaled s w w' p p' k q _)
  have a2 := fun a => (tile2_at s w w' (nearby s k (queries p p')) a q).trans (column_scaled s w w' p p' k q _)
  have a3 := fun a => (tile3_at s w w' (nearby s k (queries p p')) a q).trans (column_scaled s w w' p p' k q _)
  have a4 := fun a => (tile4_at s w w' (nearby s k (queries p p')) a q).trans (column_scaled s w w' p p' k q _)
  have ac := fun c => far_at ck p p' c q
  have ak := sinks_at e0 e1 e2 e3 q
  unfold unit attend
  generalize tile0 s w (nearby s k (queries p p')) = t0 at a0
  generalize tile1 s w (nearby s k (queries p p')) = t1 at a1
  generalize tile2 (nearby s k (queries p p')) = t2 at a2
  generalize tile3 s w' (nearby s k (queries p p')) = t3 at a3
  generalize tile4 s w' (nearby s k (queries p p')) = t4 at a4
  generalize far ck (queries p p') = c at ac
  generalize sinks e0 e1 e2 e3 = sk at ak
  obtain ⟨m, hm⟩ := peak_real sk c t0 t1 t2 t3 t4 q (ak.trans_ne (scaled_ne_top hs)) (ak.trans_ne (scaled_ne_bot hs'))
    (fun a => (ac a).trans_ne (scaled_ne_top (hf a)))
    (fun a => (a0 a).trans_ne (scaled_ne_top (hn _))) (fun a => (a1 a).trans_ne (scaled_ne_top (hn _)))
    (fun a => (a2 a).trans_ne (scaled_ne_top (hn _))) (fun a => (a3 a).trans_ne (scaled_ne_top (hn _)))
    (fun a => (a4 a).trans_ne (scaled_ne_top (hn _)))
  generalize peak sk c t0 t1 t2 t3 t4 = M at hm
  rw [share_at, weigh_at h s v cv M c t0 t1 t2 t3 t4 q (fun j => (bits : EReal) * local_score s w w' p p' k q j) a0 a1 a2 a3 a4,
    weigh_at h s v cv M c t0 t1 t2 t3 t4 q (fun j => (bits : EReal) * local_score s w w' p p' k q j) a0 a1 a2 a3 a4, hm, ak]
  simp only [ac, hcv, hv]
  exact base_two _ _ _ _ _ m hf hn hs hs'

/-! ## The stored tile, the keys and the values -/

theorem both_at (u u' : FVec Ideal S128x256 .f32) (r : Fin 128) (q : Fin 256) :
    both u u' (ix2 r q) = if r.val < 64 then u (ix2 r q) else u' (ix2 r q) := by
  pointwise [both]
  rw [(lane_half r).1, select_bool]

theorem stored_at (g : Fin 4) (u : Fin 2 → Fin 2 → FVec Ideal S128x256 .f32) (t l : Fin 128) :
    stored g (u 0 0) (u 0 1) (u 1 0) (u 1 1) (ix3 0 t l)
      = u ⟨t.val / 64, by omega⟩ ⟨l.val / 64, by omega⟩ (ix2 l ⟨g.val * 64 + t.val % 64, by omega⟩) := by
  have b0 := both_at (u 0 0) (u 0 1)
  have b1 := both_at (u 1 0) (u 1 1)
  unfold stored
  generalize both (u 0 0) (u 0 1) = y at b0
  generalize both (u 1 0) (u 1 1) = y' at b1
  pointwise
  simp only [b0, b1]
  have ht := t.isLt
  have hl := l.isLt
  by_cases c : t.val < 64
  · rw [dif_pos c]
    have e : (⟨g.val * 64 + t.val, by omega⟩ : Fin 256) = ⟨g.val * 64 + t.val % 64, by omega⟩ :=
      Fin.ext (by show g.val * 64 + t.val = g.val * 64 + t.val % 64; omega)
    have e1 : (⟨t.val / 64, by omega⟩ : Fin 2) = 0 := Fin.ext (by show t.val / 64 = 0; omega)
    rw [e, e1]
    by_cases d : l.val < 64
    · rw [if_pos d, show (⟨l.val / 64, by omega⟩ : Fin 2) = 0 from Fin.ext (by show l.val / 64 = 0; omega)]
    · rw [if_neg d, show (⟨l.val / 64, by omega⟩ : Fin 2) = 1 from Fin.ext (by show l.val / 64 = 1; omega)]
  · rw [dif_neg c]
    have e : (⟨g.val * 64 + (t.val - 64), by omega⟩ : Fin 256) = ⟨g.val * 64 + t.val % 64, by omega⟩ :=
      Fin.ext (by show g.val * 64 + (t.val - 64) = g.val * 64 + t.val % 64; omega)
    have e1 : (⟨t.val / 64, by omega⟩ : Fin 2) = 1 := Fin.ext (by show t.val / 64 = 1; omega)
    rw [e, e1]
    by_cases d : l.val < 64
    · rw [if_pos d, show (⟨l.val / 64, by omega⟩ : Fin 2) = 0 from Fin.ext (by show l.val / 64 = 0; omega)]
    · rw [if_neg d, show (⟨l.val / 64, by omega⟩ : Fin 2) = 1 from Fin.ext (by show l.val / 64 = 1; omega)]

theorem keys_at (kp : Vec Ideal S1x128x128 .bf16) (ko : Vec Ideal S1x2048x128 .bf16) (kn : Vec Ideal S1x128x128 .bf16)
    (j : Fin 2304) (l : Fin 128) :
    keys kp ko kn (ix2 j l) = if h : j.val < 128 then kp (ix3 0 ⟨j.val, h⟩ l)
      else if h' : j.val - 128 < 2048 then ko (ix3 0 ⟨j.val - 128, h'⟩ l) else kn (ix3 0 ⟨j.val - 128 - 2048, by omega⟩ l) := by
  pointwise [keys]

theorem values_at (vp : Vec Ideal S1x256x128 .bf16) (vo : Vec Ideal S1x256x2048 .bf16) (vn : Vec Ideal S1x256x128 .bf16)
    (r : Fin 256) (j : Fin 2304) :
    values vp vo vn (ix2 r j) = if h : j.val < 128 then vp (ix3 0 r ⟨j.val, h⟩)
      else if h' : j.val - 128 < 2048 then vo (ix3 0 r ⟨j.val - 128, h'⟩) else vn (ix3 0 r ⟨j.val - 128 - 2048, by omega⟩) := by
  pointwise [values]

end Cert.AttnIdeal.Tile

end
-- ==== Proof.AttnRefKeys.lean ====
/- The plain reference's queries, the 384 keys and values about each block of queries, and which of them a query sees. -/
module

public import proofs.«01_k».proof.Proof.AttnSoft
public import proofs.«01_k».proof.Proof.Gen.AttnRefIdeal.Read
public import Idealize.ShloMosaic.Lib.Pointwise

@[expose] public section

set_option maxRecDepth 16384

noncomputable section

namespace Cert.AttnRefIdeal.Row

open Idealize Idealize.ShloMosaic Cert.AttnRefIdeal Cert.AttnRefIdeal.Read

/-- Token `i` of block `n`. -/
def tok (n : Fin 64) (i : Fin 128) : Fin 8192 := ⟨n.val * 128 + i.val, by omega⟩

/-- Lane `d` of key head `h`. -/
def kl (h : Fin 2) (d : Fin 64) : Fin 128 := ⟨h.val * 64 + d.val, by omega⟩

/-- Lane `d` of query head `g` of key head `h`. -/
def ql (h : Fin 2) (g : Fin 4) (d : Fin 64) : Fin 512 := ⟨h.val * 256 + g.val * 64 + d.val, by omega⟩

/-- Key `j` of the block before, the block itself and the block after, counted from the block before. -/
def near (n : Fin 64) (j : Fin 384) : Prop := 128 ≤ n.val * 128 + j.val ∧ n.val * 128 + j.val < 8320

instance (n : Fin 64) (j : Fin 384) : Decidable (near n j) := by unfold near; infer_instance

theorem near_lt {n : Fin 64} {j : Fin 384} (h : near n j) : n.val * 128 + j.val - 128 < 8192 := by
  unfold near at h; omega

/-- A lane of that key, nothing outside the sequence. -/
def win (x : S8x8192x128.Idx → EReal) (b : Fin 8) (n : Fin 64) (j : Fin 384) (l : Fin 128) : EReal :=
  if h : near n j then x (ix3 b ⟨n.val * 128 + j.val - 128, near_lt h⟩ l) else 0

theorem split_key (b : Fin 8) (n : Fin 64) (i : Fin 128) (h : Fin 2) (d : Fin 64) :
    (((b.val * 64 + n.val) * 128 + i.val) * 2 + h.val) * 64 + d.val = (b.val * 8192 + (n.val * 128 + i.val)) * 128 + (h.val * 64 + d.val) := by
  omega

variable (x1 : S8x8192x512.Idx → EReal) (x : S8x8192x128.Idx → EReal) (b : Fin 8) (n : Fin 64)

theorem block_at (i : Fin 128) (h : Fin 2) (d : Fin 64) :
    val_main_v6 (F := Ideal) x (ix5 b n i h d) = x (ix3 b (tok n i) (kl h d)) := by
  pointwise [val_main_v6, val_main_v1]
  rfl

theorem q_at (i : Fin 128) (h : Fin 2) (g : Fin 4) (d : Fin 64) :
    val_main_v5 (F := Ideal) x1 (ix6 b n i h g d) = x1 (ix3 b (tok n i) (ql h g d)) := by
  pointwise [val_main_v5, val_main_v0]
  exact congrArg (fun l => x1 (ix3 b (tok n i) l)) (Fin.ext (show (h.val * 4 + g.val) * 64 + d.val = _ by unfold ql; show _ = h.val * 256 + g.val * 64 + d.val; omega))

theorem win_at (j : Fin 384) (h : Fin 2) (d : Fin 64) :
    val_main_v13 (F := Ideal) x (ix5 b n j h d) = win x b n j (kl h d) := by
  have hb := block_at x b
  unfold val_main_v13 val_main_v10 val_main_v12 val_main_v9 val_main_v11
  generalize val_main_v6 (F := Ideal) x = y at hb
  pointwise [val_main_v8, val_main_cst]
  simp only [hb]
  unfold win
  split
  · split
    · rw [dif_neg (by unfold near; omega)]
    · rw [dif_pos (by unfold near; omega)]
      exact congrArg (fun t => x (ix3 b t (kl h d))) (Fin.ext (show (n.val - 1) * 128 + j.val = n.val * 128 + j.val - 128 by omega))
  · split
    · rw [dif_pos (by unfold near; omega)]
      exact congrArg (fun t => x (ix3 b t (kl h d))) (Fin.ext (show n.val * 128 + (j.val - 128) = n.val * 128 + j.val - 128 by omega))
    · split
      · rw [dif_pos (by unfold near; omega)]
        exact congrArg (fun t => x (ix3 b t (kl h d))) (Fin.ext (show (1 + n.val) * 128 + (j.val - 128 - 128) = n.val * 128 + j.val - 128 by omega))
      · rw [dif_neg (by unfold near; omega)]

theorem winv_at (j : Fin 384) (h : Fin 2) (d : Fin 64) :
    val_main_v21 (F := Ideal) x (ix5 b n j h d) = win x b n j (kl h d) := win_at x b n j h d

/-- Query `i` of a block sees key `j`: within 128 places, and the key exists. -/
def sees (n : Fin 64) (i : Fin 128) (j : Fin 384) : Prop := (i.val ≤ j.val ∧ j.val ≤ i.val + 256) ∧ near n j

instance (n : Fin 64) (i : Fin 128) (j : Fin 384) : Decidable (sees n i j) := by unfold sees; infer_instance

theorem band_bit : ∀ (i : Fin 128) (j : Fin 384), IntOp.cmpi CmpIPredicate.sle
    (IntOp.absi (IntOp.subi (IntOp.subi (BitVec.ofNat 32 j.val) 128#32) (BitVec.ofNat 32 i.val))) 128#32
      = BitVec.ofBool (decide (i.val ≤ j.val ∧ j.val ≤ i.val + 256)) := by
  decide +kernel

theorem near_bit : ∀ (n : Fin 64) (j : Fin 384), IntOp.andi
    (IntOp.cmpi CmpIPredicate.sge (IntOp.addi (IntOp.muli (BitVec.ofNat 32 n.val) 128#32) (IntOp.subi (BitVec.ofNat 32 j.val) 128#32)) 0#32)
    (IntOp.cmpi CmpIPredicate.slt (IntOp.addi (IntOp.muli (BitVec.ofNat 32 n.val) 128#32) (IntOp.subi (BitVec.ofNat 32 j.val) 128#32)) 8192#32)
      = BitVec.ofBool (decide (128 ≤ n.val * 128 + j.val ∧ n.val * 128 + j.val < 8320)) := by
  decide +kernel

theorem and_bits (p q : Prop) [Decidable p] [Decidable q] :
    IntOp.andi (BitVec.ofBool (decide p)) (BitVec.ofBool (decide q)) = BitVec.ofBool (decide (p ∧ q)) := by
  by_cases hp : p <;> by_cases hq : q <;> simp only [hp, hq, decide_true, decide_false, and_true, and_false] <;> rfl

theorem andi_assoc (x y z : BitVec 1) : IntOp.andi (IntOp.andi x y) z = IntOp.andi x (IntOp.andi y z) := by
  revert x y z; decide

theorem ok_at (i : Fin 128) (j : Fin 384) : val_main_v55 (F := Ideal) (ix3 n i j) = BitVec.ofBool (decide (sees n i j)) := by
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_c, val_main_c_2, val_main_c_3, val_main_c_4, val_main_c_5]
  rw [andi_assoc, band_bit, near_bit, and_bits]
  rfl

end Cert.AttnRefIdeal.Row

end
-- ==== Proof.AttnRefRow.lean ====
/- The plain reference's result at an index: the mean of the values that a query sees, weighted by its scores. -/
module

public import proofs.«01_k».proof.Proof.AttnRefKeys
public import proofs.«01_k».proof.Proof.AttnSoft

@[expose] public section

set_option maxRecDepth 16384

noncomputable section

namespace Cert.AttnRefIdeal.Row

open Idealize Idealize.ShloMosaic Cert.AttnRefIdeal Cert.AttnRefIdeal.Gen Cert.AttnRefIdeal.Read

variable (x0 : S8.Idx → EReal) (x1 : S8x8192x512.Idx → EReal) (x2 x3 : S8x8192x128.Idx → EReal) (x4 x5 : S8x256x128.Idx → EReal)
  (b : Fin 8) (n : Fin 64) (i : Fin 128) (h : Fin 2) (g : Fin 4)

/-- The factor on the scores. -/
def eighth : EReal := Scalar.ofBits (F := Ideal) .f32 0x3E000000#32

/-- A query's score against key `j` about its block, masked where the query does not see the key. -/
def near_score (j : Fin 384) : EReal :=
  if sees n i j then (∑ d : Fin 64, win x2 b n j (kl h d) * x1 (ix3 b (tok n i) (ql h g d))) * eighth else ⊥

/-- A query's score against row `c` of the context. -/
def far_score (c : Fin 256) : EReal :=
  (∑ d : Fin 64, x4 (ix3 b c (kl h d)) * x1 (ix3 b (tok n i) (ql h g d))) * eighth

/-- A head's sink. -/
def sink : EReal := x0 (ix1 ⟨h.val * 4 + g.val, by omega⟩)

theorem near_at (j : Fin 384) : val_main_v57 (F := Ideal) x1 x2 (ix6 b n h g i j) = near_score x1 x2 b n i h g j := by
  have hq := q_at x1 b n
  have hk := win_at x2 b n
  have ho := ok_at n i j
  unfold val_main_v57 val_main_v25 val_main_v23 val_main_v22 val_main_call0_v1 val_main_v56
  generalize val_main_v5 (F := Ideal) x1 = y1 at hq
  generalize val_main_v13 (F := Ideal) x2 = y2 at hk
  generalize val_main_v55 (F := Ideal) = y3 at ho
  pointwise [val_main_call0_v2, val_main_call0_v0, val_main_cst_6, val_main_v24, val_main_cst_1]
  rw [ho]
  simp only [hq, hk]
  unfold near_score
  by_cases hs : sees n i j
  · rw [if_pos hs, decide_eq_true hs]; rfl
  · rw [if_neg hs, decide_eq_false hs]; rfl

theorem far_at (c : Fin 256) : val_main_v61 (F := Ideal) x1 x4 (ix6 b n h g i c) = far_score x1 x4 b n i h g c := by
  have hq := q_at x1 b n
  unfold val_main_v61 val_main_v59 val_main_v58
  generalize val_main_v5 (F := Ideal) x1 = y1 at hq
  pointwise [val_main_v3, val_main_v60, val_main_cst_7]
  simp only [hq]
  rfl

/-- All of a query's scores: those about its block, those against the context, and the sink. -/
def score (j : Fin 641) : EReal :=
  if h1 : j.val < 384 then near_score x1 x2 b n i h g ⟨j.val, h1⟩
  else if h2 : j.val < 640 then far_score x1 x4 b n i h g ⟨j.val - 384, by omega⟩ else sink x0 h g

theorem score_at (j : Fin 641) : val_main_v64 (F := Ideal) x0 x1 x2 x4 (ix6 b n h g i j) = score x0 x1 x2 x4 b n i h g j := by
  have h1 := near_at x1 x2 b n i h g
  have h2 := far_at x1 x4 b n i h g
  unfold val_main_v64
  generalize val_main_v57 (F := Ideal) x1 x2 = y1 at h1
  generalize val_main_v61 (F := Ideal) x1 x4 = y2 at h2
  pointwise [val_main_v63, val_main_v62]
  simp only [h1, h2]
  unfold score
  by_cases hj : j.val < 384
  · simp only [hj, dite_true]
  · by_cases hj' : j.val < 640
    · have h' : j.val - 384 < 256 := by omega
      simp only [hj, hj', h', dite_true, dite_false]
    · have h' : ¬ j.val - 384 < 256 := by omega
      simp only [hj, hj', h', dite_false]
      rfl

/-- The largest of finitely many numbers below ⊤, one of which is not ⊥, is a real number. -/
theorem fold_real {ι : Type} (s : Finset ι) (f : ι → EReal) (ht : ∀ k ∈ s, f k ≠ ⊤) {k : ι} (hk : k ∈ s) (hb : f k ≠ ⊥) :
    ∃ m : ℝ, s.fold max ⊥ f = m := by
  have h1 : s.fold max ⊥ f < ⊤ := (Finset.fold_max_lt _).mpr ⟨bot_lt_top, fun k hk => lt_top_iff_ne_top.mpr (ht k hk)⟩
  have h2 : ⊥ < s.fold max ⊥ f := (Finset.lt_fold_max _).mpr (.inr ⟨k, hk, bot_lt_iff_ne_bot.mpr hb⟩)
  exact ⟨_, (EReal.coe_toReal h1.ne h2.ne').symm⟩

variable {x0 x1 x2 x4 b n i h g}
variable (hn : ∀ j, near_score x1 x2 b n i h g j ≠ ⊤) (hf : ∀ c, far_score x1 x4 b n i h g c ≠ ⊤)
  (hs : sink x0 h g ≠ ⊤) (hs' : sink x0 h g ≠ ⊥)

include hn hf hs in
theorem score_ne_top (j : Fin 641) : score x0 x1 x2 x4 b n i h g j ≠ ⊤ := by
  unfold score
  split
  · exact hn _
  · split
    · exact hf _
    · exact hs

/-- Dropping the last of six coordinates. -/
theorem drop_at (k : S8x64x2x4x128x641.Idx) : reducesTo_S8x64x2x4x128x641_S8x64x2x4x128_d5.drop k
    = ix5 (k 0) (k 1) (k 2) (k 3) (k 4) := by
  funext a
  match a with
  | ⟨0, _⟩ => rfl
  | ⟨1, _⟩ => rfl
  | ⟨2, _⟩ => rfl
  | ⟨3, _⟩ => rfl
  | ⟨4, _⟩ => rfl

theorem six (k : S8x64x2x4x128x641.Idx) (hk : reducesTo_S8x64x2x4x128x641_S8x64x2x4x128_d5.drop k = ix5 b n h g i) :
    k = ix6 b n h g i (k 5) := by
  rw [drop_at] at hk
  funext a
  match a with
  | ⟨0, _⟩ => exact congrFun hk 0
  | ⟨1, _⟩ => exact congrFun hk 1
  | ⟨2, _⟩ => exact congrFun hk 2
  | ⟨3, _⟩ => exact congrFun hk 3
  | ⟨4, _⟩ => exact congrFun hk 4
  | ⟨5, _⟩ => rfl

include hn hf hs hs' in
theorem top_at : ∃ m : ℝ, val_main_v67 (F := Ideal) x0 x1 x2 x4 (ix5 b n h g i) = m := by
  have h1 := score_at x0 x1 x2 x4 b n i h g
  rw [val_main_v67_apply, val_main_v66_apply, val_main_cst_9_apply]
  unfold val_main_v65
  generalize val_main_v64 (F := Ideal) x0 x1 x2 x4 = y at h1
  rw [Host.reduce_eq_fold]
  obtain ⟨m, hm⟩ := fold_real (Finset.univ.filter fun k => reducesTo_S8x64x2x4x128x641_S8x64x2x4x128_d5.drop k = ix5 b n h g i) y
    (fun k hk => by
      rw [six k (Finset.mem_filter.mp hk).2]
      exact (h1 _).trans_ne (score_ne_top hn hf hs _))
    (k := ix6 b n h g i ⟨640, by omega⟩) (Finset.mem_filter.mpr ⟨Finset.mem_univ _, drop_at _⟩)
    ((h1 _).trans_ne hs')
  refine ⟨m, ?_⟩
  refine Eq.trans ?_ hm
  exact bot_sup_eq _

theorem sum_641 (f : Fin 641 → EReal) : ∑ j, f j
    = ∑ j : Fin 384, f ⟨j.val, by omega⟩ + ∑ c : Fin 256, f ⟨384 + c.val, by omega⟩ + f ⟨640, by omega⟩ := by
  rw [Fin.sum_univ_castSucc (n := 640)]
  exact congrArg (· + _) (Fin.sum_univ_add (a := 384) (b := 256) fun j => f (Fin.castSucc j))

theorem score_near (j : Fin 384) : score x0 x1 x2 x4 b n i h g ⟨j.val, by omega⟩ = near_score x1 x2 b n i h g j := by
  unfold score
  exact dif_pos j.isLt

theorem score_far (c : Fin 256) : score x0 x1 x2 x4 b n i h g ⟨384 + c.val, by omega⟩ = far_score x1 x4 b n i h g c := by
  unfold score
  rw [dif_neg (show ¬ 384 + c.val < 384 by omega), dif_pos (show 384 + c.val < 640 by omega)]
  exact congrArg _ (Fin.ext (show 384 + c.val - 384 = c.val by omega))

theorem score_sink : score x0 x1 x2 x4 b n i h g ⟨640, by omega⟩ = sink x0 h g := rfl

theorem lifted_at (j : Fin 641) : val_main_v71 (F := Ideal) x0 x1 x2 x4 (ix6 b n h g i j)
    = Ideal.exp (score x0 x1 x2 x4 b n i h g j - val_main_v67 (F := Ideal) x0 x1 x2 x4 (ix5 b n h g i)) := by
  rw [val_main_v71_apply, val_main_v70_apply, val_main_v69_apply, val_main_v68_apply, score_at]
  have hi : idx_main_v68 (idx_main_v69 (ix6 b n h g i j)) = ix5 b n h g i := by
    funext a
    match a with
    | ⟨0, _⟩ => rfl
    | ⟨1, _⟩ => rfl
    | ⟨2, _⟩ => rfl
    | ⟨3, _⟩ => rfl
    | ⟨4, _⟩ => rfl
  rw [hi]
  rfl

theorem sum_at {m : EReal} (hm : val_main_v67 (F := Ideal) x0 x1 x2 x4 (ix5 b n h g i) = m) :
    val_main_v72 (F := Ideal) x0 x1 x2 x4 (ix5 b n h g i)
      = ∑ j, Ideal.exp (near_score x1 x2 b n i h g j - m) + ∑ c, Ideal.exp (far_score x1 x4 b n i h g c - m)
        + Ideal.exp (sink x0 h g - m) := by
  rw [val_main_v72_apply, val_main_cst_10_apply]
  have hk : ∀ k : Fin 641, val_main_v71 (F := Ideal) x0 x1 x2 x4 (idx_main_v72 (ix5 b n h g i) k)
      = Ideal.exp (score x0 x1 x2 x4 b n i h g k - m) := fun k => by
    rw [← hm, ← lifted_at]
    refine congrArg _ (funext fun a => ?_)
    match a with
    | ⟨0, _⟩ => rfl
    | ⟨1, _⟩ => rfl
    | ⟨2, _⟩ => rfl
    | ⟨3, _⟩ => rfl
    | ⟨4, _⟩ => rfl
    | ⟨5, _⟩ => rfl
  simp only [hk]
  rw [sum_641]
  simp only [score_near, score_far, score_sink]
  refine Eq.trans (congrArg (· + _) ?_) (zero_add _)
  exact Ideal.ofBits_zero .f32

include hn hf hs hs' in
/-- The reference's attention at an index, before the heads are laid side by side. -/
theorem mean_at (d : Fin 64) : val_main_v82 (F := Ideal) x0 x1 x2 x3 x4 x5 (ix6 b n i h g d)
    = AttnSoft.mean (far_score x1 x4 b n i h g) (near_score x1 x2 b n i h g) (sink x0 h g)
        (fun c => x5 (ix3 b c (kl h d))) (fun j => win x3 b n j (kl h d)) := by
  obtain ⟨m, hm⟩ := top_at hn hf hs hs'
  have hd := sum_at hm
  have h1 := lifted_at (x0 := x0) (x1 := x1) (x2 := x2) (x4 := x4) (b := b) (n := n) (i := i) (h := h) (g := g)
  have hv := winv_at x3 b n
  rw [hm] at h1
  unfold val_main_v82 val_main_v81 val_main_v80 val_main_v79 val_main_v78 val_main_v77 val_main_v76 val_main_v75 val_main_v74 val_main_v73
  generalize val_main_v71 (F := Ideal) x0 x1 x2 x4 = y1 at h1
  generalize val_main_v72 (F := Ideal) x0 x1 x2 x4 = y2 at hd
  generalize val_main_v21 (F := Ideal) x3 = y3 at hv
  pointwise [val_main_v4]
  simp only [h1, hv, score_near, score_far]
  exact AttnSoft.base_e _ _ _ _ _ m _ hf hn hs hs' hd

theorem res_at (t : Fin 8192) (l : Fin 512) : val_main_v85 (F := Ideal) x0 x1 x2 x3 x4 x5 (ix3 b t l)
    = val_main_v82 (F := Ideal) x0 x1 x2 x3 x4 x5
        (ix6 b ⟨t.val / 128, by omega⟩ ⟨t.val % 128, by omega⟩ ⟨l.val / 64 % 2, by omega⟩ ⟨l.val / 128, by omega⟩ ⟨l.val % 64, by omega⟩) := by
  unfold val_main_v85 val_main_v84 val_main_v83
  generalize val_main_v82 (F := Ideal) x0 x1 x2 x3 x4 x5 = y
  pointwise

end Cert.AttnRefIdeal.Row

end
-- ==== Proof.AttnHost.lean ====
/- The keys and values that the host prepares for the local attention kernel. -/
module

public import proofs.«01_k».proof.Proof.Gen.AttnIdeal.Value
public import Idealize.ShloMosaic.Lib.Pointwise
public import Idealize.ShloMosaic.Lib.IdealHost
public import Idealize.ShloMosaic.Lib.StableHlo.RunRead
public import Idealize.ShloMosaic.Lib.Pipeline.ValueKit
public import Idealize.ShloMosaic.Lib.Claim

@[expose] public section

set_option maxRecDepth 16384

noncomputable section

namespace Cert.AttnIdeal.Tile

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The key lane that a lane of the doubled keys holds. -/
def once (l : Fin 256) : Fin 128 := ⟨l.val / 128 * 64 + l.val % 64, by omega⟩

set_option maxHeartbeats 4000000 in
theorem kd_entry (b : Fin 8) (n : Fin 8192) (l : Fin 256) :
    V m c main_v5 (ix3 b n l) = m ((c : Thread nD τ).loc main_arg2) (ix3 b n (once l)) := by
  unfold V
  after_reads_simp
  pointwise
  after_reads_simp
  pointwise
  split_ifs <;> exact congrArg (fun q => m ((c : Thread nD τ).loc main_arg2) (ix3 b n q)) (Fin.ext (by dsimp only [once]; omega))

set_option maxHeartbeats 4000000 in
theorem vt_entry (b : Fin 8) (r : Fin 256) (n : Fin 8192) :
    V m c main_v11 (ix3 b r n) = if 64 ≤ r.val ∧ r.val < 192 then (1 : EReal) else m ((c : Thread nD τ).loc main_arg3) (ix3 b n ⟨r.val % 128, by omega⟩) := by
  unfold V
  after_reads_simp
  pointwise
  after_reads_simp
  pointwise
  by_cases hr : 64 ≤ r.val ∧ r.val < 192
  · rw [if_pos hr]
    split_ifs <;> first
      | rfl
      | (exfalso; omega)
  · rw [if_neg hr]
    split_ifs <;> first
      | (exfalso; omega)
      | exact congrArg (fun q => m ((c : Thread nD τ).loc main_arg3) (ix3 b n q)) (Fin.ext (by dsimp only; omega))

set_option maxHeartbeats 4000000 in
theorem ckd_entry (b : Fin 8) (n : Fin 256) (l : Fin 256) :
    V m c main_v17 (ix3 b n l) = m ((c : Thread nD τ).loc main_arg4) (ix3 b n (once l)) := by
  unfold V
  after_reads_simp
  pointwise
  after_reads_simp
  pointwise
  split_ifs <;> exact congrArg (fun q => m ((c : Thread nD τ).loc main_arg4) (ix3 b n q)) (Fin.ext (by dsimp only [once]; omega))

set_option maxHeartbeats 4000000 in
theorem cvt_entry (b : Fin 8) (r n : Fin 256) :
    V m c main_v25 (ix3 0 r ⟨b.val * 256 + n.val, by omega⟩)
      = if 64 ≤ r.val ∧ r.val < 192 then (1 : EReal) else m ((c : Thread nD τ).loc main_arg5) (ix3 b n ⟨r.val % 128, by omega⟩) := by
  unfold V
  after_reads_simp
  pointwise
  after_reads_simp
  pointwise
  have e1 : (b.val * 256 + n.val) / 256 = b.val := by omega
  have e2 : (b.val * 256 + n.val) % 256 = n.val := by omega
  by_cases hr : 64 ≤ r.val ∧ r.val < 192
  · rw [if_pos hr]
    split_ifs <;> first
      | rfl
      | (exfalso; omega)
  · rw [if_neg hr]
    split_ifs <;> first
      | (exfalso; omega)
      | exact congrArg (m ((c : Thread nD τ).loc main_arg5)) (funext fun a => Fin.ext (by match a with | ⟨0, _⟩ => exact e1 | ⟨1, _⟩ => exact e2 | ⟨2, _⟩ => (first | (show r.val = r.val % 128; omega) | (show 64 + (r.val - 64 - 64 - 64) = r.val % 128; omega))))

end Cert.AttnIdeal.Tile

end
-- ==== Proof.AttnPoint.lean ====
/- The local attention kernel's stored block in terms of the arrays: each stored value is a mean over the keys that the query sees. -/
module

public import proofs.«01_k».proof.Proof.AttnUnitRow
public import proofs.«01_k».proof.Proof.AttnRefRow
public import proofs.«01_k».proof.Proof.AttnHost
public import Idealize.ShloMosaic.Lib.Pointwise

@[expose] public section

set_option maxRecDepth 16384

noncomputable section

namespace Cert.AttnIdeal.Tile

open Idealize Idealize.ShloMosaic Cert.AttnIdeal Cert.AttnIdeal.Gen Idealize.ShloMosaic.TcCoe Cert.AttnRefIdeal.Row AttnSoft

/-! ## Finite scores -/

theorem eighth_eq : eighth = ((1 / 8 : ℝ) : EReal) := by
  show Ideal.ofBits .f32 0x3E000000#32 = _
  simp [Ideal.ofBits, Ideal.ieee, -EReal.coe_mul]
  norm_num

theorem dot_ne_top (a b : Fin 64 → EReal) (ha : ∀ d, a d ≠ ⊤ ∧ a d ≠ ⊥) (hb : ∀ d, b d ≠ ⊤ ∧ b d ≠ ⊥) :
    (∑ d, a d * b d) * eighth ≠ ⊤ := by
  have h : ∀ d, a d * b d = (((a d).toReal * (b d).toReal : ℝ) : EReal) := fun d => by
    rw [EReal.coe_mul, EReal.coe_toReal (ha d).1 (ha d).2, EReal.coe_toReal (hb d).1 (hb d).2]
  rw [Finset.sum_congr rfl fun d _ => h d, ← coe_sum, eighth_eq, ← EReal.coe_mul]
  exact EReal.coe_ne_top _

section

variable {X1 : Cert.AttnRefIdeal.S8x8192x512.Idx → EReal} {X2 : Cert.AttnRefIdeal.S8x8192x128.Idx → EReal} {X4 : Cert.AttnRefIdeal.S8x256x128.Idx → EReal}

theorem near_ne_top (f1 : ∀ i, X1 i ≠ ⊤ ∧ X1 i ≠ ⊥) (f2 : ∀ i, X2 i ≠ ⊤ ∧ X2 i ≠ ⊥) (b : Fin 8) (n : Fin 64) (i : Fin 128) (h : Fin 2) (g : Fin 4) (j : Fin 384) :
    near_score X1 X2 b n i h g j ≠ ⊤ := by
  unfold near_score
  by_cases hs : sees n i j
  · rw [if_pos hs]
    refine dot_ne_top _ _ (fun d => ?_) fun d => f1 _
    unfold win
    rw [dif_pos hs.2]
    exact f2 _
  · rw [if_neg hs]
    exact bot_ne_top

theorem far_ne_top (f1 : ∀ i, X1 i ≠ ⊤ ∧ X1 i ≠ ⊥) (f4 : ∀ i, X4 i ≠ ⊤ ∧ X4 i ≠ ⊥) (b : Fin 8) (n : Fin 64) (i : Fin 128) (h : Fin 2) (g : Fin 4) (c : Fin 256) :
    far_score X1 X4 b n i h g c ≠ ⊤ :=
  dot_ne_top _ _ (fun _ => f4 _) fun _ => f1 _

end

/-! ## Where a key of the tile lies -/

/-- The row of the sequence that key `j` of the tile's 2304 is read from. -/
def spot (i : Fin 4) (j : Fin 2304) : Fin 8192 :=
  if h : j.val < 128 then ⟨(i.val * 16 - 1) * 128 + j.val, by omega⟩
  else if h' : j.val - 128 < 2048 then ⟨i.val * 2048 + (j.val - 128), by omega⟩
  else ⟨min ((i.val + 1) * 16) 63 * 128 + (j.val - 128 - 2048), by omega⟩

theorem spot_near (i : Fin 4) (n : Fin 16) (f : Fin 2) (j : Fin 320)
    (h : near ⟨i.val * 16 + n.val, by omega⟩ ⟨f.val * 64 + j.val, by omega⟩) :
    spot i ⟨(n.val * 2 + f.val) * 64 + j.val, by omega⟩
      = ⟨_, near_lt h⟩ := by
  have h1 : 128 ≤ (i.val * 16 + n.val) * 128 + (f.val * 64 + j.val) := h.1
  have h2 : (i.val * 16 + n.val) * 128 + (f.val * 64 + j.val) < 8320 := h.2
  have hi := i.isLt
  have hn := n.isLt
  have hf := f.isLt
  have hj := j.isLt
  unfold spot
  by_cases c : (n.val * 2 + f.val) * 64 + j.val < 128
  · rw [dif_pos c]
    refine Fin.ext ?_
    show (i.val * 16 - 1) * 128 + ((n.val * 2 + f.val) * 64 + j.val) = (i.val * 16 + n.val) * 128 + (f.val * 64 + j.val) - 128
    omega
  · rw [dif_neg c]
    by_cases c' : (n.val * 2 + f.val) * 64 + j.val - 128 < 2048
    · rw [dif_pos c']
      refine Fin.ext ?_
      show i.val * 2048 + ((n.val * 2 + f.val) * 64 + j.val - 128) = (i.val * 16 + n.val) * 128 + (f.val * 64 + j.val) - 128
      omega
    · rw [dif_neg c']
      refine Fin.ext ?_
      show min ((i.val + 1) * 16) 63 * 128 + ((n.val * 2 + f.val) * 64 + j.val - 128 - 2048) = (i.val * 16 + n.val) * 128 + (f.val * 64 + j.val) - 128
      omega

theorem first_bit : ∀ i : Fin 4, Scalar.cmpi .sgt (BitVec.ofNat 32 i.val) 0#32 = 1#1 ↔ 0 < i.val := by
  decide +kernel

theorem last_bit : ∀ i : Fin 4, Scalar.cmpi .slt (BitVec.ofNat 32 i.val) 3#32 = 1#1 ↔ i.val < 3 := by
  decide +kernel

/-- The kernel's masks keep the keys that the query sees. -/
theorem seen_iff (i : Fin 4) (n : Fin 16) (f : Fin 2) (g : Fin 4) (p : Fin 64) (j : Fin 320) :
    seen ⟨n.val * 2 + f.val, by omega⟩ (Scalar.cmpi .sgt (BitVec.ofNat 32 i.val) 0#32) (Scalar.cmpi .slt (BitVec.ofNat 32 i.val) 3#32)
        ⟨g.val * 64 + p.val, by omega⟩ j
      ↔ sees ⟨i.val * 16 + n.val, by omega⟩ ⟨f.val * 64 + p.val, by omega⟩ ⟨f.val * 64 + j.val, by omega⟩ := by
  unfold seen sees near
  rw [first_bit, last_bit]
  have hi := i.isLt
  have hn := n.isLt
  have hf := f.isLt
  have hj := j.isLt
  have hp := p.isLt
  dsimp only
  omega

/-! ## What the kernel loads, in terms of the arrays -/

section

variable (x0 : Vec Ideal S8 .f32) (x1 : Vec Ideal S1x2048x512 .f32) (x2 : Vec Ideal S1x128x256 .bf16)
  (x3 : Vec Ideal S1x2048x256 .bf16) (x4 : Vec Ideal S1x128x256 .bf16) (x5 : Vec Ideal S1x256x128 .bf16)
  (x6 : Vec Ideal S1x256x2048 .bf16) (x7 : Vec Ideal S1x256x128 .bf16) (x8 : Vec Ideal S1x256x256 .bf16) (x9 : Vec Ideal S1x256x256 .bf16)
  (X0 : Cert.AttnRefIdeal.S8.Idx → EReal) (X1 : Cert.AttnRefIdeal.S8x8192x512.Idx → EReal) (X2 X3 : Cert.AttnRefIdeal.S8x8192x128.Idx → EReal)
  (X4 X5 : Cert.AttnRefIdeal.S8x256x128.Idx → EReal) (b : Fin 8) (i : Fin 4)
  (n : Fin 16) (f : Fin 2) (h : Fin 2) (g : Fin 4) (p d : Fin 64)

theorem keysOf_at (r2 : ∀ y l, x2 (ix3 0 y l) = X2 (ix3 b ⟨(i.val * 16 - 1) * 128 + y.val, by omega⟩ (once l)))
    (r3 : ∀ y l, x3 (ix3 0 y l) = X2 (ix3 b ⟨i.val * 2048 + y.val, by omega⟩ (once l)))
    (r4 : ∀ y l, x4 (ix3 0 y l) = X2 (ix3 b ⟨min ((i.val + 1) * 16) 63 * 128 + y.val, by omega⟩ (once l))) (j : Fin 2304) (l : Fin 128) :
    keysOf x2 x3 x4 h (ix2 j l) = X2 (ix3 b (spot i j) (once ⟨h.val * 128 + l.val, by omega⟩)) := by
  unfold keysOf spot
  rw [keys_at]
  by_cases c : j.val < 128
  · rw [dif_pos c, dif_pos c]
    pointwise
    exact r2 _ _
  · rw [dif_neg c, dif_neg c]
    by_cases c' : j.val - 128 < 2048
    · rw [dif_pos c', dif_pos c']
      pointwise
      exact r3 _ _
    · rw [dif_neg c', dif_neg c']
      pointwise
      exact r4 _ _

theorem valuesOf_at
    (r5 : ∀ r y, x5 (ix3 0 r y) = if 64 ≤ r.val ∧ r.val < 192 then 1 else X3 (ix3 b ⟨(i.val * 16 - 1) * 128 + y.val, by omega⟩ ⟨r.val % 128, by omega⟩))
    (r6 : ∀ r y, x6 (ix3 0 r y) = if 64 ≤ r.val ∧ r.val < 192 then 1 else X3 (ix3 b ⟨i.val * 2048 + y.val, by omega⟩ ⟨r.val % 128, by omega⟩))
    (r7 : ∀ r y, x7 (ix3 0 r y) = if 64 ≤ r.val ∧ r.val < 192 then 1 else X3 (ix3 b ⟨min ((i.val + 1) * 16) 63 * 128 + y.val, by omega⟩ ⟨r.val % 128, by omega⟩))
    (r : Fin 256) (j : Fin 2304) :
    valuesOf x5 x6 x7 (ix2 r j) = if 64 ≤ r.val ∧ r.val < 192 then (1 : EReal) else X3 (ix3 b (spot i j) ⟨r.val % 128, by omega⟩) := by
  unfold valuesOf spot
  rw [values_at]
  by_cases c : j.val < 128
  · rw [dif_pos c, dif_pos c]
    pointwise
    exact r5 _ _
  · rw [dif_neg c, dif_neg c]
    by_cases c' : j.val - 128 < 2048
    · rw [dif_pos c', dif_pos c']
      pointwise
      exact r6 _ _
    · rw [dif_neg c', dif_neg c']
      pointwise
      exact r7 _ _

theorem once_lane (e : ℕ) (he : e < 2) : once ⟨h.val * 128 + (lane e he d).val, by have := (lane e he d).isLt; omega⟩ = kl h d :=
  Fin.ext (by show (h.val * 128 + (e * 64 + d.val)) / 128 * 64 + (h.val * 128 + (e * 64 + d.val)) % 64 = h.val * 64 + d.val; omega)

theorem query_at (r1 : ∀ y l, x1 (ix3 0 y l) = X1 (ix3 b ⟨i.val * 2048 + y.val, by omega⟩ l)) :
    query (queriesOf x1 ⟨n.val * 2 + f.val, by omega⟩ ⟨h.val * 2, by omega⟩) (queriesOf x1 ⟨n.val * 2 + f.val, by omega⟩ ⟨h.val * 2 + 1, by omega⟩)
        ⟨g.val * 64 + p.val, by omega⟩ (lane ((g.val * 64 + p.val) / 64 % 2) (by omega) d)
      = X1 (ix3 b (tok ⟨i.val * 16 + n.val, by omega⟩ ⟨f.val * 64 + p.val, by omega⟩) (ql h g d)) := by
  unfold query queriesOf
  have hn := n.isLt
  have hf := f.isLt
  have hh := h.isLt
  have hg := g.isLt
  have hp := p.isLt
  have hd := d.isLt
  by_cases c : (g.val * 64 + p.val) / 64 < 2
  · rw [if_pos c]
    pointwise
    refine (r1 _ _).trans (congrArg X1 (funext fun a => Fin.ext ?_))
    match a with
    | ⟨0, _⟩ => rfl
    | ⟨1, _⟩ =>
      show i.val * 2048 + ((n.val * 2 + f.val) * 64 + (g.val * 64 + p.val) % 64) = (i.val * 16 + n.val) * 128 + (f.val * 64 + p.val)
      omega
    | ⟨2, _⟩ =>
      show h.val * 2 * 128 + ((g.val * 64 + p.val) / 64 % 2 * 64 + d.val) = h.val * 256 + g.val * 64 + d.val
      omega
  · rw [if_neg c]
    pointwise
    refine (r1 _ _).trans (congrArg X1 (funext fun a => Fin.ext ?_))
    match a with
    | ⟨0, _⟩ => rfl
    | ⟨1, _⟩ =>
      show i.val * 2048 + ((n.val * 2 + f.val) * 64 + (g.val * 64 + p.val) % 64) = (i.val * 16 + n.val) * 128 + (f.val * 64 + p.val)
      omega
    | ⟨2, _⟩ =>
      show (h.val * 2 + 1) * 128 + ((g.val * 64 + p.val) / 64 % 2 * 64 + d.val) = h.val * 256 + g.val * 64 + d.val
      omega

theorem dotted_at (r1 : ∀ y l, x1 (ix3 0 y l) = X1 (ix3 b ⟨i.val * 2048 + y.val, by omega⟩ l)) (k : Fin 128 → EReal) (w : Fin 64 → EReal)
    (hk : ∀ (e : ℕ) (he : e < 2) d, k (lane e he d) = w d) :
    dotted (queriesOf x1 ⟨n.val * 2 + f.val, by omega⟩ ⟨h.val * 2, by omega⟩) (queriesOf x1 ⟨n.val * 2 + f.val, by omega⟩ ⟨h.val * 2 + 1, by omega⟩)
        ⟨g.val * 64 + p.val, by omega⟩ k
      = (∑ d, w d * X1 (ix3 b (tok ⟨i.val * 16 + n.val, by omega⟩ ⟨f.val * 64 + p.val, by omega⟩) (ql h g d))) * eighth := by
  unfold dotted
  rw [eighth_eq]
  exact congrArg (· * _) (Finset.sum_congr rfl fun d _ => congrArg₂ (· * ·) (hk _ _ d) (query_at x1 X1 b i n f h g p d r1))

theorem sunk_at (r0 : ∀ g, x0 (ix1 g) = X0 (ix1 g)) :
    sunk (sinkOf x0 ⟨h.val * 4, by omega⟩) (sinkOf x0 ⟨h.val * 4 + 1, by omega⟩) (sinkOf x0 ⟨h.val * 4 + 2, by omega⟩) (sinkOf x0 ⟨h.val * 4 + 3, by omega⟩)
        ⟨g.val * 64 + p.val, by omega⟩ = sink X0 h g := by
  have hs : ∀ e : Fin 8, sinkOf x0 e = X0 (ix1 e) := fun e => by
    refine Eq.trans ?_ (r0 e)
    unfold sinkOf
    exact congrArg x0 (funext fun a => Fin.ext (by match a with | ⟨0, _⟩ => exact Nat.add_zero _))
  unfold sunk sink
  simp only [hs]
  have hp := p.isLt
  split_ifs with c1 c2 c3
  · exact congrArg X0 (congrArg ix1 (Fin.ext (by show h.val * 4 = h.val * 4 + g.val; omega)))
  · exact congrArg X0 (congrArg ix1 (Fin.ext (by show h.val * 4 + 1 = h.val * 4 + g.val; omega)))
  · exact congrArg X0 (congrArg ix1 (Fin.ext (by show h.val * 4 + 2 = h.val * 4 + g.val; omega)))
  · exact congrArg X0 (congrArg ix1 (Fin.ext (by show h.val * 4 + 3 = h.val * 4 + g.val; omega)))

end

end Cert.AttnIdeal.Tile

end
-- ==== Proof.AttnMean.lean ====
/- The local attention kernel's stored block: each stored value is the mean over the keys that its query sees. -/
module

public import proofs.«01_k».proof.Proof.AttnPoint

@[expose] public section

set_option maxRecDepth 16384

noncomputable section

namespace Cert.AttnIdeal.Tile

open Idealize Idealize.ShloMosaic Cert.AttnIdeal Cert.AttnIdeal.Gen Idealize.ShloMosaic.TcCoe Cert.AttnRefIdeal.Row AttnSoft

/-- A head's attention at a query and a lane of the head. -/
def headMean (X0 : Cert.AttnRefIdeal.S8.Idx → EReal) (X1 : Cert.AttnRefIdeal.S8x8192x512.Idx → EReal) (X2 X3 : Cert.AttnRefIdeal.S8x8192x128.Idx → EReal)
    (X4 X5 : Cert.AttnRefIdeal.S8x256x128.Idx → EReal) (b : Fin 8) (n : Fin 64) (i : Fin 128) (h : Fin 2) (g : Fin 4) (d : Fin 64) : EReal :=
  mean (far_score X1 X4 b n i h g) (near_score X1 X2 b n i h g) (sink X0 h g) (fun c => X5 (ix3 b c (kl h d))) (fun j => win X3 b n j (kl h d))

/-- The attention at a token and a lane of all the heads' lanes. -/
def meanAt (X0 : Cert.AttnRefIdeal.S8.Idx → EReal) (X1 : Cert.AttnRefIdeal.S8x8192x512.Idx → EReal) (X2 X3 : Cert.AttnRefIdeal.S8x8192x128.Idx → EReal)
    (X4 X5 : Cert.AttnRefIdeal.S8x256x128.Idx → EReal) (b : Fin 8) (t : Fin 8192) (l : Fin 512) : EReal :=
  headMean X0 X1 X2 X3 X4 X5 b ⟨t.val / 128, by omega⟩ ⟨t.val % 128, by omega⟩ ⟨l.val / 64 % 2, by omega⟩ ⟨l.val / 128, by omega⟩ ⟨l.val % 64, by omega⟩

theorem far_eq (x1 : Vec Ideal S1x2048x512 .f32) (x8 : Vec Ideal S1x256x256 .bf16) (X1 : Cert.AttnRefIdeal.S8x8192x512.Idx → EReal)
    (X4 : Cert.AttnRefIdeal.S8x256x128.Idx → EReal) (b : Fin 8) (i : Fin 4)
    (r1 : ∀ y l, x1 (ix3 0 y l) = X1 (ix3 b ⟨i.val * 2048 + y.val, by omega⟩ l))
    (r8 : ∀ n l, x8 (ix3 0 n l) = X4 (ix3 b n (once l)))
    (n : Fin 16) (f h : Fin 2) (g : Fin 4) (p : Fin 64) (c : Fin 256) :
    dotted (queriesOf x1 ⟨n.val * 2 + f.val, by omega⟩ ⟨h.val * 2, by omega⟩) (queriesOf x1 ⟨n.val * 2 + f.val, by omega⟩ ⟨h.val * 2 + 1, by omega⟩)
        ⟨g.val * 64 + p.val, by omega⟩ (fun l => View.ld x8 (Rect.unit ![0, 0, h.val * 128] ![1, 256, 128] (ck_inb h)) (ix3 0 c l))
      = far_score X1 X4 b ⟨i.val * 16 + n.val, by omega⟩ ⟨f.val * 64 + p.val, by omega⟩ h g c := by
  refine dotted_at x1 X1 b i n f h g p r1 _ (fun d => X4 (ix3 b c (kl h d))) fun e he d => ?_
  pointwise
  refine (r8 _ _).trans ?_
  exact congrArg (fun l => X4 (ix3 b c l)) (once_lane h d e he)

theorem near_eq (x1 : Vec Ideal S1x2048x512 .f32) (x2 : Vec Ideal S1x128x256 .bf16) (x3 : Vec Ideal S1x2048x256 .bf16) (x4 : Vec Ideal S1x128x256 .bf16)
    (X1 : Cert.AttnRefIdeal.S8x8192x512.Idx → EReal) (X2 : Cert.AttnRefIdeal.S8x8192x128.Idx → EReal) (b : Fin 8) (i : Fin 4)
    (r1 : ∀ y l, x1 (ix3 0 y l) = X1 (ix3 b ⟨i.val * 2048 + y.val, by omega⟩ l))
    (r2 : ∀ y l, x2 (ix3 0 y l) = X2 (ix3 b ⟨(i.val * 16 - 1) * 128 + y.val, by omega⟩ (once l)))
    (r3 : ∀ y l, x3 (ix3 0 y l) = X2 (ix3 b ⟨i.val * 2048 + y.val, by omega⟩ (once l)))
    (r4 : ∀ y l, x4 (ix3 0 y l) = X2 (ix3 b ⟨min ((i.val + 1) * 16) 63 * 128 + y.val, by omega⟩ (once l)))
    (n : Fin 16) (f h : Fin 2) (g : Fin 4) (p : Fin 64) (j : Fin 320) :
    local_score ⟨n.val * 2 + f.val, by omega⟩ (Scalar.cmpi .sgt (BitVec.ofNat 32 i.val) 0#32) (Scalar.cmpi .slt (BitVec.ofNat 32 i.val) 3#32)
        (queriesOf x1 ⟨n.val * 2 + f.val, by omega⟩ ⟨h.val * 2, by omega⟩) (queriesOf x1 ⟨n.val * 2 + f.val, by omega⟩ ⟨h.val * 2 + 1, by omega⟩)
        (keysOf x2 x3 x4 h) ⟨g.val * 64 + p.val, by omega⟩ j
      = near_score X1 X2 b ⟨i.val * 16 + n.val, by omega⟩ ⟨f.val * 64 + p.val, by omega⟩ h g ⟨f.val * 64 + j.val, by omega⟩ := by
  unfold local_score near_score
  by_cases hs : sees ⟨i.val * 16 + n.val, by omega⟩ ⟨f.val * 64 + p.val, by omega⟩ ⟨f.val * 64 + j.val, by omega⟩
  · rw [if_pos ((seen_iff i n f g p j).mpr hs), if_pos hs]
    refine dotted_at x1 X1 b i n f h g p r1 _ (fun d => win X2 b ⟨i.val * 16 + n.val, by omega⟩ ⟨f.val * 64 + j.val, by omega⟩ (kl h d)) fun e he d => ?_
    refine (keysOf_at x2 x3 x4 X2 b i h r2 r3 r4 _ _).trans ?_
    unfold win
    rw [dif_pos hs.2, once_lane h d e he, ← spot_near i n f j hs.2]
  · rw [if_neg (mt (seen_iff i n f g p j).mp hs), if_neg hs]

/-- Row `y` of the tile `i` of the sequence. -/
def own (i : Fin 4) (y : Fin 2048) : Fin 8192 := ⟨i.val * 2048 + y.val, by omega⟩

/-- Row `y` of the block before the tile. -/
def prior (i : Fin 4) (y : Fin 128) : Fin 8192 := ⟨(i.val * 16 - 1) * 128 + y.val, by omega⟩

/-- Row `y` of the block after the tile. -/
def later (i : Fin 4) (y : Fin 128) : Fin 8192 := ⟨min ((i.val + 1) * 16) 63 * 128 + y.val, by omega⟩

/-- The value lane that a row of the widened values holds. -/
def valueLane (r : Fin 256) : Fin 128 := ⟨r.val % 128, by omega⟩

section

variable (ci : grid0.Coords) (x0 : Vec Ideal S8 .f32) (x1 : Vec Ideal S1x2048x512 .f32) (x2 : Vec Ideal S1x128x256 .bf16)
  (x3 : Vec Ideal S1x2048x256 .bf16) (x4 : Vec Ideal S1x128x256 .bf16) (x5 : Vec Ideal S1x256x128 .bf16)
  (x6 : Vec Ideal S1x256x2048 .bf16) (x7 : Vec Ideal S1x256x128 .bf16) (x8 : Vec Ideal S1x256x256 .bf16) (x9 : Vec Ideal S1x256x256 .bf16)
  (X0 : Cert.AttnRefIdeal.S8.Idx → EReal) (X1 : Cert.AttnRefIdeal.S8x8192x512.Idx → EReal) (X2 X3 : Cert.AttnRefIdeal.S8x8192x128.Idx → EReal)
  (X4 X5 : Cert.AttnRefIdeal.S8x256x128.Idx → EReal) (b : Fin 8) (i : Fin 4)
  (r0 : ∀ g, x0 (ix1 g) = X0 (ix1 g)) (r1 : ∀ y l, x1 (ix3 0 y l) = X1 (ix3 b (own i y) l))
  (r2 : ∀ y l, x2 (ix3 0 y l) = X2 (ix3 b (prior i y) (once l)))
  (r3 : ∀ y l, x3 (ix3 0 y l) = X2 (ix3 b (own i y) (once l)))
  (r4 : ∀ y l, x4 (ix3 0 y l) = X2 (ix3 b (later i y) (once l)))
  (r5 : ∀ r y, x5 (ix3 0 r y) = if 64 ≤ r.val ∧ r.val < 192 then 1 else X3 (ix3 b (prior i y) (valueLane r)))
  (r6 : ∀ r y, x6 (ix3 0 r y) = if 64 ≤ r.val ∧ r.val < 192 then 1 else X3 (ix3 b (own i y) (valueLane r)))
  (r7 : ∀ r y, x7 (ix3 0 r y) = if 64 ≤ r.val ∧ r.val < 192 then 1 else X3 (ix3 b (later i y) (valueLane r)))
  (r8 : ∀ n l, x8 (ix3 0 n l) = X4 (ix3 b n (once l)))
  (r9 : ∀ r n, x9 (ix3 0 r n) = if 64 ≤ r.val ∧ r.val < 192 then 1 else X5 (ix3 b n (valueLane r)))
  (hi : (ci 1).val = i.val)
  (f0 : ∀ i, X0 i ≠ ⊤ ∧ X0 i ≠ ⊥) (f1 : ∀ i, X1 i ≠ ⊤ ∧ X1 i ≠ ⊥) (f2 : ∀ i, X2 i ≠ ⊤ ∧ X2 i ≠ ⊥) (f4 : ∀ i, X4 i ≠ ⊤ ∧ X4 i ≠ ⊥)

include r0 r1 r2 r3 r4 r5 r6 r7 r8 r9 hi f0 f1 f2 f4 in
/-- A unit's result at a query of a head and a lane of its head. -/
theorem unit_mean (n : Fin 16) (f h : Fin 2) (g : Fin 4) (p d : Fin 64) :
    unitOf ci x0 x1 x2 x3 x4 x5 x6 x7 x8 x9 h ⟨n.val * 2 + f.val, by omega⟩ (ix2 ⟨h.val * 64 + d.val, by omega⟩ ⟨g.val * 64 + p.val, by omega⟩)
      = headMean X0 X1 X2 X3 X4 X5 b ⟨i.val * 16 + n.val, by omega⟩ ⟨f.val * 64 + p.val, by omega⟩ h g d := by
  have hh := h.isLt
  have hd := d.isLt
  have hp := p.isLt
  have hf := f.isLt
  have efar := far_eq x1 x8 X1 X4 b i r1 r8 n f h g p
  have enear := near_eq x1 x2 x3 x4 X1 X2 b i r1 r2 r3 r4 n f h g p
  have esink := sunk_at x0 X0 h g p r0
  have ev := valuesOf_at x5 x6 x7 X3 b i r5 r6 r7
  have ecv : ∀ (r : Fin 128) (c : Fin 256), View.ld x9 (Rect.unit ![0, h.val * 128, 0] ![1, 128, 256] (cv_inb h)) (ix3 0 r c)
      = if 64 ≤ h.val * 128 + r.val ∧ h.val * 128 + r.val < 192 then 1 else X5 (ix3 b c ⟨(h.val * 128 + r.val) % 128, by omega⟩) := fun r c => by
    pointwise
    exact r9 _ _
  unfold unitOf
  rw [hi]
  refine (unit_at h _ _ _ _ _ _ _ _ _ _ _ _ _ _ _ (fun j => ?_) (fun c => ?_) (esink.trans_ne (f0 _).1) (esink.trans_ne (f0 _).2)
    (fun c => (efar c).trans_ne (far_ne_top f1 f4 _ _ _ _ _ _)) (fun j => (enear j).trans_ne (near_ne_top f1 f2 _ _ _ _ _ _))).trans ?_
  · rw [ev, if_pos]
    show 64 ≤ h.val * 128 + (64 - h.val * 64) ∧ h.val * 128 + (64 - h.val * 64) < 192
    omega
  · rw [ecv, if_pos]
    show 64 ≤ h.val * 128 + (64 - h.val * 64) ∧ h.val * 128 + (64 - h.val * 64) < 192
    omega
  · rw [funext efar, esink]
    have hrow : ¬ (64 ≤ h.val * 128 + (h.val * 64 + d.val) ∧ h.val * 128 + (h.val * 64 + d.val) < 192) := by omega
    have hlane : (⟨(h.val * 128 + (h.val * 64 + d.val)) % 128, by omega⟩ : Fin 128) = kl h d :=
      Fin.ext (by show (h.val * 128 + (h.val * 64 + d.val)) % 128 = h.val * 64 + d.val; omega)
    have hcv : (fun c => View.ld x9 (Rect.unit ![0, h.val * 128, 0] ![1, 128, 256] (cv_inb h)) (ix3 0 ⟨h.val * 64 + d.val, by omega⟩ c))
        = fun c => X5 (ix3 b c (kl h d)) := funext fun c => by
      rw [ecv, if_neg hrow]
      exact congrArg (fun l => X5 (ix3 b c l)) hlane
    rw [hcv]
    refine mean_window _ _ _ _ _ _ _ (fun j : Fin 320 => (⟨f.val * 64 + j.val, by omega⟩ : Fin 384)) (fun j j' e => Fin.ext ?_) enear (fun j hj => ?_) fun J hJ => ?_
    · have e' : f.val * 64 + j.val = f.val * 64 + j'.val := congrArg Fin.val e
      omega
    · have hs : sees ⟨i.val * 16 + n.val, by omega⟩ ⟨f.val * 64 + p.val, by omega⟩ ⟨f.val * 64 + j.val, by omega⟩ := by
        by_contra hc
        exact hj (if_neg hc)
      rw [ev, if_neg hrow]
      unfold win
      rw [dif_pos hs.2, ← spot_near i n f j hs.2]
      exact congrArg (fun l => X3 (ix3 b _ l)) hlane
    · refine if_neg fun hs => ?_
      have h1 : f.val * 64 + p.val ≤ J.val := hs.1.1
      have h2 : J.val ≤ f.val * 64 + p.val + 256 := hs.1.2
      exact hJ ⟨J.val - f.val * 64, by omega⟩ (Fin.ext (by show f.val * 64 + (J.val - f.val * 64) = J.val; omega))

include r0 r1 r2 r3 r4 r5 r6 r7 r8 r9 hi f0 f1 f2 f4 in
/-- What a grid point stores at a row and a lane of its block. -/
theorem outAt_mean (y : Fin 2048) (l : Fin 512) :
    outAt ci x0 x1 x2 x3 x4 x5 x6 x7 x8 x9 y l = meanAt X0 X1 X2 X3 X4 X5 b (own i y) l := by
  unfold outAt outOf
  refine (stored_at _ (fun f h => unitOf ci x0 x1 x2 x3 x4 x5 x6 x7 x8 x9 h ⟨y.val / 128 * 2 + f.val, by omega⟩) _ _).trans ?_
  have hy := y.isLt
  have hl := l.isLt
  have hr : (⟨l.val % 128, by omega⟩ : Fin 128) = ⟨(l.val % 128 / 64) * 64 + l.val % 64, by omega⟩ :=
    Fin.ext (by show l.val % 128 = l.val % 128 / 64 * 64 + l.val % 64; omega)
  have hu := unit_mean ci x0 x1 x2 x3 x4 x5 x6 x7 x8 x9 X0 X1 X2 X3 X4 X5 b i r0 r1 r2 r3 r4 r5 r6 r7 r8 r9 hi f0 f1 f2 f4
    ⟨y.val / 128, by omega⟩ ⟨y.val % 128 / 64, by omega⟩ ⟨l.val % 128 / 64, by omega⟩ ⟨l.val / 128, by omega⟩ ⟨y.val % 128 % 64, by omega⟩ ⟨l.val % 64, by omega⟩
  refine Eq.trans (congrArg (fun e => unitOf ci x0 x1 x2 x3 x4 x5 x6 x7 x8 x9 _ _ (ix2 e _)) hr) (hu.trans ?_)
  have e1 : (⟨i.val * 16 + y.val / 128, by omega⟩ : Fin 64) = ⟨(i.val * 2048 + y.val) / 128, by omega⟩ :=
    Fin.ext (by show i.val * 16 + y.val / 128 = (i.val * 2048 + y.val) / 128; omega)
  have e2 : (⟨y.val % 128 / 64 * 64 + y.val % 128 % 64, by omega⟩ : Fin 128) = ⟨(i.val * 2048 + y.val) % 128, by omega⟩ :=
    Fin.ext (by show y.val % 128 / 64 * 64 + y.val % 128 % 64 = (i.val * 2048 + y.val) % 128; omega)
  have e3 : (⟨l.val % 128 / 64, by omega⟩ : Fin 2) = ⟨l.val / 64 % 2, by omega⟩ :=
    Fin.ext (by show l.val % 128 / 64 = l.val / 64 % 2; omega)
  unfold meanAt own
  dsimp only
  rw [e1, e2, e3]

end

end Cert.AttnIdeal.Tile

end
-- ==== Proof.AttnReads.lean ====
/- What each window of the local attention kernel holds at a grid point. -/
module

public import proofs.«01_k».proof.Proof.Gen.AttnIdeal.Value
public import Idealize.ShloMosaic.Lib.Pointwise
public import Idealize.ShloMosaic.Lib.IdealHost
public import Idealize.ShloMosaic.Lib.Pipeline.ValueKit
public import Idealize.ShloMosaic.Lib.Claim

@[expose] public section

set_option maxRecDepth 16384

noncomputable section

namespace Cert.AttnIdeal.Tile

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Where each window's block lies at grid point `t`. -/
theorem idx : ∀ t : Fin cfg0.N,
    win0_0.index t = ![0]
    ∧ win0_1.index t = ![(grid0.coords t 0).val, (grid0.coords t 1).val, 0]
    ∧ win0_2.index t = ![(grid0.coords t 0).val, (grid0.coords t 1).val * 16 - 1, 0]
    ∧ win0_3.index t = ![(grid0.coords t 0).val, (grid0.coords t 1).val, 0]
    ∧ win0_4.index t = ![(grid0.coords t 0).val, min (((grid0.coords t 1).val + 1) * 16) 63, 0]
    ∧ win0_5.index t = ![(grid0.coords t 0).val, 0, (grid0.coords t 1).val * 16 - 1]
    ∧ win0_6.index t = ![(grid0.coords t 0).val, 0, (grid0.coords t 1).val]
    ∧ win0_7.index t = ![(grid0.coords t 0).val, 0, min (((grid0.coords t 1).val + 1) * 16) 63]
    ∧ win0_8.index t = ![(grid0.coords t 0).val, 0, 0]
    ∧ win0_9.index t = ![0, 0, (grid0.coords t 0).val]
    ∧ win0_10.index t = ![(grid0.coords t 0).val, (grid0.coords t 1).val, 0] :=
  (by decide +kernel : ∀ t : Fin grid0.N, _)

theorem index_0 (t : Fin cfg0.N) : win0_0.index t = ![0] := (idx t).1
theorem index_1 (t : Fin cfg0.N) : win0_1.index t = ![(grid0.coords t 0).val, (grid0.coords t 1).val, 0] := (idx t).2.1
theorem index_2 (t : Fin cfg0.N) : win0_2.index t = ![(grid0.coords t 0).val, (grid0.coords t 1).val * 16 - 1, 0] := (idx t).2.2.1
theorem index_3 (t : Fin cfg0.N) : win0_3.index t = ![(grid0.coords t 0).val, (grid0.coords t 1).val, 0] := (idx t).2.2.2.1
theorem index_4 (t : Fin cfg0.N) : win0_4.index t = ![(grid0.coords t 0).val, min (((grid0.coords t 1).val + 1) * 16) 63, 0] := (idx t).2.2.2.2.1
theorem index_5 (t : Fin cfg0.N) : win0_5.index t = ![(grid0.coords t 0).val, 0, (grid0.coords t 1).val * 16 - 1] := (idx t).2.2.2.2.2.1
theorem index_6 (t : Fin cfg0.N) : win0_6.index t = ![(grid0.coords t 0).val, 0, (grid0.coords t 1).val] := (idx t).2.2.2.2.2.2.1
theorem index_7 (t : Fin cfg0.N) : win0_7.index t = ![(grid0.coords t 0).val, 0, min (((grid0.coords t 1).val + 1) * 16) 63] := (idx t).2.2.2.2.2.2.2.1
theorem index_8 (t : Fin cfg0.N) : win0_8.index t = ![(grid0.coords t 0).val, 0, 0] := (idx t).2.2.2.2.2.2.2.2.1
theorem index_9 (t : Fin cfg0.N) : win0_9.index t = ![0, 0, (grid0.coords t 0).val] := (idx t).2.2.2.2.2.2.2.2.2.1
theorem index_10 (t : Fin cfg0.N) : win0_10.index t = ![(grid0.coords t 0).val, (grid0.coords t 1).val, 0] := (idx t).2.2.2.2.2.2.2.2.2.2

section

variable (t : Fin cfg0.N) (b : Fin 8) (i : Fin 4) (hb : (grid0.coords t 0).val = b.val) (hi : (grid0.coords t 1).val = i.val)

theorem read_sink (g : Fin 8) : iblk m c 0 t (ix1 g) = m ((c : Thread nD τ).loc main_arg0) (ix1 g) := by
  blk_ext [iblk, V, index_0 t]

include hb hi in
theorem read_q (y : Fin 2048) (l : Fin 512) :
    iblk m c 1 t (ix3 0 y l) = m ((c : Thread nD τ).loc main_arg1) (ix3 b ⟨i.val * 2048 + y.val, by omega⟩ l) := by
  blk_ext [iblk, V, index_1 t]

include hb hi in
theorem read_kp (y : Fin 128) (l : Fin 256) :
    iblk m c 2 t (ix3 0 y l) = V m c main_v5 (ix3 b ⟨(i.val * 16 - 1) * 128 + y.val, by omega⟩ l) := by
  blk_ext [iblk, index_2 t]

include hb hi in
theorem read_ko (y : Fin 2048) (l : Fin 256) :
    iblk m c 3 t (ix3 0 y l) = V m c main_v5 (ix3 b ⟨i.val * 2048 + y.val, by omega⟩ l) := by
  blk_ext [iblk, index_3 t]

include hb hi in
theorem read_kn (y : Fin 128) (l : Fin 256) :
    iblk m c 4 t (ix3 0 y l) = V m c main_v5 (ix3 b ⟨min ((i.val + 1) * 16) 63 * 128 + y.val, by omega⟩ l) := by
  blk_ext [iblk, index_4 t]

include hb hi in
theorem read_vp (r : Fin 256) (y : Fin 128) :
    iblk m c 5 t (ix3 0 r y) = V m c main_v11 (ix3 b r ⟨(i.val * 16 - 1) * 128 + y.val, by omega⟩) := by
  blk_ext [iblk, index_5 t]

include hb hi in
theorem read_vo (r : Fin 256) (y : Fin 2048) :
    iblk m c 6 t (ix3 0 r y) = V m c main_v11 (ix3 b r ⟨i.val * 2048 + y.val, by omega⟩) := by
  blk_ext [iblk, index_6 t]

include hb hi in
theorem read_vn (r : Fin 256) (y : Fin 128) :
    iblk m c 7 t (ix3 0 r y) = V m c main_v11 (ix3 b r ⟨min ((i.val + 1) * 16) 63 * 128 + y.val, by omega⟩) := by
  blk_ext [iblk, index_7 t]

include hb in
theorem read_ck (n l : Fin 256) : iblk m c 8 t (ix3 0 n l) = V m c main_v17 (ix3 b n l) := by
  blk_ext [iblk, index_8 t]

include hb in
theorem read_cv (r n : Fin 256) : iblk m c 9 t (ix3 0 r n) = V m c main_v25 (ix3 0 r ⟨b.val * 256 + n.val, by omega⟩) := by
  blk_ext [iblk, index_9 t]

end

end Cert.AttnIdeal.Tile

end
-- ==== Proof.AttnRows.lean ====
/- Rows of the result's block outside a stored tile. -/
module

public import proofs.«01_k».proof.Proof.AttnUnit

@[expose] public section

namespace Cert.AttnIdeal.Tile

open Idealize Idealize.ShloMosaic Cert.AttnIdeal

/-- A row that is not among the 128 of tile `n`. -/
theorem away (x : S1x128x128.Idx) (n : ℕ) (r : Fin 2048) (h : r.val < n * 128 ∨ n * 128 + 128 ≤ r.val) :
    ¬ r.val = n * 128 + (x 1).val := by
  have hx : (x 1).val < 128 := (x 1).isLt
  omega

end Cert.AttnIdeal.Tile
-- ==== Proof.AttnTilesA.lean ====
/- What a grid point of the local attention kernel leaves in rows 0 to 511 of its block of the result: each stored tile is four units. -/
module

public import proofs.«01_k».proof.Proof.AttnRows
public import proofs.«01_k».proof.Proof.Gen.AttnIdeal.Value
public import Idealize.ShloMosaic.Lib.Pointwise
public import Idealize.ShloMosaic.Lib.Pipeline.ValueKit
public import Idealize.ShloMosaic.Lib.Claim

@[expose] public section

set_option maxRecDepth 16384

noncomputable section

namespace Cert.AttnIdeal.Tile

open Idealize Idealize.ShloMosaic Cert.AttnIdeal Cert.AttnIdeal.Gen Idealize.ShloMosaic.TcCoe

set_option maxHeartbeats 4000000 in
/-- The block a grid point leaves, at a row of this range and a lane. -/
theorem tilesA (c : Dev nD) (i : grid0.Coords) (arg2 : Memref sig .tc .smem S8 .f32) (harg2 : arg2.IsWhole) (arg3 : Memref sig .tc .vmem S1x2048x512 .f32) (harg3 : arg3.IsWhole) (arg4 : Memref sig .tc .vmem S1x128x256 .bf16) (harg4 : arg4.IsWhole) (arg5 : Memref sig .tc .vmem S1x2048x256 .bf16) (harg5 : arg5.IsWhole) (arg6 : Memref sig .tc .vmem S1x128x256 .bf16) (harg6 : arg6.IsWhole) (arg7 : Memref sig .tc .vmem S1x256x128 .bf16) (harg7 : arg7.IsWhole) (arg8 : Memref sig .tc .vmem S1x256x2048 .bf16) (harg8 : arg8.IsWhole) (arg9 : Memref sig .tc .vmem S1x256x128 .bf16) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x2048x512 .bf16) (harg12 : arg12.IsWhole)
    (x0 : Vec Ideal S8 .f32) (x1 : Vec Ideal S1x2048x512 .f32) (x2 : Vec Ideal S1x128x256 .bf16) (x3 : Vec Ideal S1x2048x256 .bf16) (x4 : Vec Ideal S1x128x256 .bf16) (x5 : Vec Ideal S1x256x128 .bf16) (x6 : Vec Ideal S1x256x2048 .bf16) (x7 : Vec Ideal S1x256x128 .bf16) (x8 : Vec Ideal S1x256x256 .bf16) (x9 : Vec Ideal S1x256x256 .bf16) (r : Fin 2048) (l : Fin 512)
    (hr : 0 ≤ r.val) (hr' : r.val < 512) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9 (ix3 0 r l)
      = outAt i x0 x1 x2 x3 x4 x5 x6 x7 x8 x9 r l := by
  frame_out
  canon_tiles x h
  · exact absurd h1 (away x 15 r (by omega))
  · exact absurd h1 (away x 15 r (by omega))
  · exact absurd h1 (away x 15 r (by omega))
  · exact absurd h1 (away x 15 r (by omega))
  · exact absurd h1 (away x 14 r (by omega))
  · exact absurd h1 (away x 14 r (by omega))
  · exact absurd h1 (away x 14 r (by omega))
  · exact absurd h1 (away x 14 r (by omega))
  · exact absurd h1 (away x 13 r (by omega))
  · exact absurd h1 (away x 13 r (by omega))
  · exact absurd h1 (away x 13 r (by omega))
  · exact absurd h1 (away x 13 r (by omega))
  · exact absurd h1 (away x 12 r (by omega))
  · exact absurd h1 (away x 12 r (by omega))
  · exact absurd h1 (away x 12 r (by omega))
  · exact absurd h1 (away x 12 r (by omega))
  · exact absurd h1 (away x 11 r (by omega))
  · exact absurd h1 (away x 11 r (by omega))
  · exact absurd h1 (away x 11 r (by omega))
  · exact absurd h1 (away x 11 r (by omega))
  · exact absurd h1 (away x 10 r (by omega))
  · exact absurd h1 (away x 10 r (by omega))
  · exact absurd h1 (away x 10 r (by omega))
  · exact absurd h1 (away x 10 r (by omega))
  · exact absurd h1 (away x 9 r (by omega))
  · exact absurd h1 (away x 9 r (by omega))
  · exact absurd h1 (away x 9 r (by omega))
  · exact absurd h1 (away x 9 r (by omega))
  · exact absurd h1 (away x 8 r (by omega))
  · exact absurd h1 (away x 8 r (by omega))
  · exact absurd h1 (away x 8 r (by omega))
  · exact absurd h1 (away x 8 r (by omega))
  · exact absurd h1 (away x 7 r (by omega))
  · exact absurd h1 (away x 7 r (by omega))
  · exact absurd h1 (away x 7 r (by omega))
  · exact absurd h1 (away x 7 r (by omega))
  · exact absurd h1 (away x 6 r (by omega))
  · exact absurd h1 (away x 6 r (by omega))
  · exact absurd h1 (away x 6 r (by omega))
  · exact absurd h1 (away x 6 r (by omega))
  · exact absurd h1 (away x 5 r (by omega))
  · exact absurd h1 (away x 5 r (by omega))
  · exact absurd h1 (away x 5 r (by omega))
  · exact absurd h1 (away x 5 r (by omega))
  · exact absurd h1 (away x 4 r (by omega))
  · exact absurd h1 (away x 4 r (by omega))
  · exact absurd h1 (away x 4 r (by omega))
  · exact absurd h1 (away x 4 r (by omega))
  · refine (congrFun (?_ : _ = outOf i x0 x1 x2 x3 x4 x5 x6 x7 x8 x9 3 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 3 3 x r l h1 h2
  · refine (congrFun (?_ : _ = outOf i x0 x1 x2 x3 x4 x5 x6 x7 x8 x9 3 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 3 2 x r l h1 h2
  · refine (congrFun (?_ : _ = outOf i x0 x1 x2 x3 x4 x5 x6 x7 x8 x9 3 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 3 1 x r l h1 h2
  · refine (congrFun (?_ : _ = outOf i x0 x1 x2 x3 x4 x5 x6 x7 x8 x9 3 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 3 0 x r l h1 (by simpa using h2)
  · refine (congrFun (?_ : _ = outOf i x0 x1 x2 x3 x4 x5 x6 x7 x8 x9 2 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 2 3 x r l h1 h2
  · refine (congrFun (?_ : _ = outOf i x0 x1 x2 x3 x4 x5 x6 x7 x8 x9 2 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 2 2 x r l h1 h2
  · refine (congrFun (?_ : _ = outOf i x0 x1 x2 x3 x4 x5 x6 x7 x8 x9 2 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 2 1 x r l h1 h2
  · refine (congrFun (?_ : _ = outOf i x0 x1 x2 x3 x4 x5 x6 x7 x8 x9 2 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 2 0 x r l h1 (by simpa using h2)
  · refine (congrFun (?_ : _ = outOf i x0 x1 x2 x3 x4 x5 x6 x7 x8 x9 1 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 1 3 x r l h1 h2
  · refine (congrFun (?_ : _ = outOf i x0 x1 x2 x3 x4 x5 x6 x7 x8 x9 1 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 1 2 x r l h1 h2
  · refine (congrFun (?_ : _ = outOf i x0 x1 x2 x3 x4 x5 x6 x7 x8 x9 1 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 1 1 x r l h1 h2
  · refine (congrFun (?_ : _ = outOf i x0 x1 x2 x3 x4 x5 x6 x7 x8 x9 1 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 1 0 x r l h1 (by simpa using h2)
  · refine (congrFun (?_ : _ = outOf i x0 x1 x2 x3 x4 x5 x6 x7 x8 x9 0 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 0 3 x r l (by simpa using h1) h2
  · refine (congrFun (?_ : _ = outOf i x0 x1 x2 x3 x4 x5 x6 x7 x8 x9 0 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 0 2 x r l (by simpa using h1) h2
  · refine (congrFun (?_ : _ = outOf i x0 x1 x2 x3 x4 x5 x6 x7 x8 x9 0 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 0 1 x r l (by simpa using h1) h2
  · refine (congrFun (?_ : _ = outOf i x0 x1 x2 x3 x4 x5 x6 x7 x8 x9 0 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 0 0 x r l (by simpa using h1) (by simpa using h2)

end Cert.AttnIdeal.Tile

end
-- ==== Proof.AttnTilesB.lean ====
/- What a grid point of the local attention kernel leaves in rows 512 to 1023 of its block of the result: each stored tile is four units. -/
module

public import proofs.«01_k».proof.Proof.AttnRows
public import proofs.«01_k».proof.Proof.Gen.AttnIdeal.Value
public import Idealize.ShloMosaic.Lib.Pointwise
public import Idealize.ShloMosaic.Lib.Pipeline.ValueKit
public import Idealize.ShloMosaic.Lib.Claim

@[expose] public section

set_option maxRecDepth 16384

noncomputable section

namespace Cert.AttnIdeal.Tile

open Idealize Idealize.ShloMosaic Cert.AttnIdeal Cert.AttnIdeal.Gen Idealize.ShloMosaic.TcCoe

set_option maxHeartbeats 4000000 in
/-- The block a grid point leaves, at a row of this range and a lane. -/
theorem tilesB (c : Dev nD) (i : grid0.Coords) (arg2 : Memref sig .tc .smem S8 .f32) (harg2 : arg2.IsWhole) (arg3 : Memref sig .tc .vmem S1x2048x512 .f32) (harg3 : arg3.IsWhole) (arg4 : Memref sig .tc .vmem S1x128x256 .bf16) (harg4 : arg4.IsWhole) (arg5 : Memref sig .tc .vmem S1x2048x256 .bf16) (harg5 : arg5.IsWhole) (arg6 : Memref sig .tc .vmem S1x128x256 .bf16) (harg6 : arg6.IsWhole) (arg7 : Memref sig .tc .vmem S1x256x128 .bf16) (harg7 : arg7.IsWhole) (arg8 : Memref sig .tc .vmem S1x256x2048 .bf16) (harg8 : arg8.IsWhole) (arg9 : Memref sig .tc .vmem S1x256x128 .bf16) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x2048x512 .bf16) (harg12 : arg12.IsWhole)
    (x0 : Vec Ideal S8 .f32) (x1 : Vec Ideal S1x2048x512 .f32) (x2 : Vec Ideal S1x128x256 .bf16) (x3 : Vec Ideal S1x2048x256 .bf16) (x4 : Vec Ideal S1x128x256 .bf16) (x5 : Vec Ideal S1x256x128 .bf16) (x6 : Vec Ideal S1x256x2048 .bf16) (x7 : Vec Ideal S1x256x128 .bf16) (x8 : Vec Ideal S1x256x256 .bf16) (x9 : Vec Ideal S1x256x256 .bf16) (r : Fin 2048) (l : Fin 512)
    (hr : 512 ≤ r.val) (hr' : r.val < 1024) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9 (ix3 0 r l)
      = outAt i x0 x1 x2 x3 x4 x5 x6 x7 x8 x9 r l := by
  frame_out
  canon_tiles x h
  · exact absurd h1 (away x 15 r (by omega))
  · exact absurd h1 (away x 15 r (by omega))
  · exact absurd h1 (away x 15 r (by omega))
  · exact absurd h1 (away x 15 r (by omega))
  · exact absurd h1 (away x 14 r (by omega))
  · exact absurd h1 (away x 14 r (by omega))
  · exact absurd h1 (away x 14 r (by omega))
  · exact absurd h1 (away x 14 r (by omega))
  · exact absurd h1 (away x 13 r (by omega))
  · exact absurd h1 (away x 13 r (by omega))
  · exact absurd h1 (away x 13 r (by omega))
  · exact absurd h1 (away x 13 r (by omega))
  · exact absurd h1 (away x 12 r (by omega))
  · exact absurd h1 (away x 12 r (by omega))
  · exact absurd h1 (away x 12 r (by omega))
  · exact absurd h1 (away x 12 r (by omega))
  · exact absurd h1 (away x 11 r (by omega))
  · exact absurd h1 (away x 11 r (by omega))
  · exact absurd h1 (away x 11 r (by omega))
  · exact absurd h1 (away x 11 r (by omega))
  · exact absurd h1 (away x 10 r (by omega))
  · exact absurd h1 (away x 10 r (by omega))
  · exact absurd h1 (away x 10 r (by omega))
  · exact absurd h1 (away x 10 r (by omega))
  · exact absurd h1 (away x 9 r (by omega))
  · exact absurd h1 (away x 9 r (by omega))
  · exact absurd h1 (away x 9 r (by omega))
  · exact absurd h1 (away x 9 r (by omega))
  · exact absurd h1 (away x 8 r (by omega))
  · exact absurd h1 (away x 8 r (by omega))
  · exact absurd h1 (away x 8 r (by omega))
  · exact absurd h1 (away x 8 r (by omega))
  · refine (congrFun (?_ : _ = outOf i x0 x1 x2 x3 x4 x5 x6 x7 x8 x9 7 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 7 3 x r l h1 h2
  · refine (congrFun (?_ : _ = outOf i x0 x1 x2 x3 x4 x5 x6 x7 x8 x9 7 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 7 2 x r l h1 h2
  · refine (congrFun (?_ : _ = outOf i x0 x1 x2 x3 x4 x5 x6 x7 x8 x9 7 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 7 1 x r l h1 h2
  · refine (congrFun (?_ : _ = outOf i x0 x1 x2 x3 x4 x5 x6 x7 x8 x9 7 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 7 0 x r l h1 (by simpa using h2)
  · refine (congrFun (?_ : _ = outOf i x0 x1 x2 x3 x4 x5 x6 x7 x8 x9 6 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 6 3 x r l h1 h2
  · refine (congrFun (?_ : _ = outOf i x0 x1 x2 x3 x4 x5 x6 x7 x8 x9 6 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 6 2 x r l h1 h2
  · refine (congrFun (?_ : _ = outOf i x0 x1 x2 x3 x4 x5 x6 x7 x8 x9 6 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 6 1 x r l h1 h2
  · refine (congrFun (?_ : _ = outOf i x0 x1 x2 x3 x4 x5 x6 x7 x8 x9 6 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 6 0 x r l h1 (by simpa using h2)
  · refine (congrFun (?_ : _ = outOf i x0 x1 x2 x3 x4 x5 x6 x7 x8 x9 5 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 5 3 x r l h1 h2
  · refine (congrFun (?_ : _ = outOf i x0 x1 x2 x3 x4 x5 x6 x7 x8 x9 5 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 5 2 x r l h1 h2
  · refine (congrFun (?_ : _ = outOf i x0 x1 x2 x3 x4 x5 x6 x7 x8 x9 5 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 5 1 x r l h1 h2
  · refine (congrFun (?_ : _ = outOf i x0 x1 x2 x3 x4 x5 x6 x7 x8 x9 5 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 5 0 x r l h1 (by simpa using h2)
  · refine (congrFun (?_ : _ = outOf i x0 x1 x2 x3 x4 x5 x6 x7 x8 x9 4 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 4 3 x r l h1 h2
  · refine (congrFun (?_ : _ = outOf i x0 x1 x2 x3 x4 x5 x6 x7 x8 x9 4 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 4 2 x r l h1 h2
  · refine (congrFun (?_ : _ = outOf i x0 x1 x2 x3 x4 x5 x6 x7 x8 x9 4 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 4 1 x r l h1 h2
  · refine (congrFun (?_ : _ = outOf i x0 x1 x2 x3 x4 x5 x6 x7 x8 x9 4 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 4 0 x r l h1 (by simpa using h2)
  · exact absurd h1 (away x 3 r (by omega))
  · exact absurd h1 (away x 3 r (by omega))
  · exact absurd h1 (away x 3 r (by omega))
  · exact absurd h1 (away x 3 r (by omega))
  · exact absurd h1 (away x 2 r (by omega))
  · exact absurd h1 (away x 2 r (by omega))
  · exact absurd h1 (away x 2 r (by omega))
  · exact absurd h1 (away x 2 r (by omega))
  · exact absurd h1 (away x 1 r (by omega))
  · exact absurd h1 (away x 1 r (by omega))
  · exact absurd h1 (away x 1 r (by omega))
  · exact absurd h1 (away x 1 r (by omega))
  · exact absurd (by simpa using h1) (away x 0 r (by omega))
  · exact absurd (by simpa using h1) (away x 0 r (by omega))
  · exact absurd (by simpa using h1) (away x 0 r (by omega))
  · exact absurd (by simpa using h1) (away x 0 r (by omega))

end Cert.AttnIdeal.Tile

end
-- ==== Proof.AttnTilesC.lean ====
/- What a grid point of the local attention kernel leaves in rows 1024 to 1535 of its block of the result: each stored tile is four units. -/
module

public import proofs.«01_k».proof.Proof.AttnRows
public import proofs.«01_k».proof.Proof.Gen.AttnIdeal.Value
public import Idealize.ShloMosaic.Lib.Pointwise
public import Idealize.ShloMosaic.Lib.Pipeline.ValueKit
public import Idealize.ShloMosaic.Lib.Claim

@[expose] public section

set_option maxRecDepth 16384

noncomputable section

namespace Cert.AttnIdeal.Tile

open Idealize Idealize.ShloMosaic Cert.AttnIdeal Cert.AttnIdeal.Gen Idealize.ShloMosaic.TcCoe

set_option maxHeartbeats 4000000 in
/-- The block a grid point leaves, at a row of this range and a lane. -/
theorem tilesC (c : Dev nD) (i : grid0.Coords) (arg2 : Memref sig .tc .smem S8 .f32) (harg2 : arg2.IsWhole) (arg3 : Memref sig .tc .vmem S1x2048x512 .f32) (harg3 : arg3.IsWhole) (arg4 : Memref sig .tc .vmem S1x128x256 .bf16) (harg4 : arg4.IsWhole) (arg5 : Memref sig .tc .vmem S1x2048x256 .bf16) (harg5 : arg5.IsWhole) (arg6 : Memref sig .tc .vmem S1x128x256 .bf16) (harg6 : arg6.IsWhole) (arg7 : Memref sig .tc .vmem S1x256x128 .bf16) (harg7 : arg7.IsWhole) (arg8 : Memref sig .tc .vmem S1x256x2048 .bf16) (harg8 : arg8.IsWhole) (arg9 : Memref sig .tc .vmem S1x256x128 .bf16) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x2048x512 .bf16) (harg12 : arg12.IsWhole)
    (x0 : Vec Ideal S8 .f32) (x1 : Vec Ideal S1x2048x512 .f32) (x2 : Vec Ideal S1x128x256 .bf16) (x3 : Vec Ideal S1x2048x256 .bf16) (x4 : Vec Ideal S1x128x256 .bf16) (x5 : Vec Ideal S1x256x128 .bf16) (x6 : Vec Ideal S1x256x2048 .bf16) (x7 : Vec Ideal S1x256x128 .bf16) (x8 : Vec Ideal S1x256x256 .bf16) (x9 : Vec Ideal S1x256x256 .bf16) (r : Fin 2048) (l : Fin 512)
    (hr : 1024 ≤ r.val) (hr' : r.val < 1536) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9 (ix3 0 r l)
      = outAt i x0 x1 x2 x3 x4 x5 x6 x7 x8 x9 r l := by
  frame_out
  canon_tiles x h
  · exact absurd h1 (away x 15 r (by omega))
  · exact absurd h1 (away x 15 r (by omega))
  · exact absurd h1 (away x 15 r (by omega))
  · exact absurd h1 (away x 15 r (by omega))
  · exact absurd h1 (away x 14 r (by omega))
  · exact absurd h1 (away x 14 r (by omega))
  · exact absurd h1 (away x 14 r (by omega))
  · exact absurd h1 (away x 14 r (by omega))
  · exact absurd h1 (away x 13 r (by omega))
  · exact absurd h1 (away x 13 r (by omega))
  · exact absurd h1 (away x 13 r (by omega))
  · exact absurd h1 (away x 13 r (by omega))
  · exact absurd h1 (away x 12 r (by omega))
  · exact absurd h1 (away x 12 r (by omega))
  · exact absurd h1 (away x 12 r (by omega))
  · exact absurd h1 (away x 12 r (by omega))
  · refine (congrFun (?_ : _ = outOf i x0 x1 x2 x3 x4 x5 x6 x7 x8 x9 11 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 11 3 x r l h1 h2
  · refine (congrFun (?_ : _ = outOf i x0 x1 x2 x3 x4 x5 x6 x7 x8 x9 11 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 11 2 x r l h1 h2
  · refine (congrFun (?_ : _ = outOf i x0 x1 x2 x3 x4 x5 x6 x7 x8 x9 11 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 11 1 x r l h1 h2
  · refine (congrFun (?_ : _ = outOf i x0 x1 x2 x3 x4 x5 x6 x7 x8 x9 11 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 11 0 x r l h1 (by simpa using h2)
  · refine (congrFun (?_ : _ = outOf i x0 x1 x2 x3 x4 x5 x6 x7 x8 x9 10 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 10 3 x r l h1 h2
  · refine (congrFun (?_ : _ = outOf i x0 x1 x2 x3 x4 x5 x6 x7 x8 x9 10 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 10 2 x r l h1 h2
  · refine (congrFun (?_ : _ = outOf i x0 x1 x2 x3 x4 x5 x6 x7 x8 x9 10 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 10 1 x r l h1 h2
  · refine (congrFun (?_ : _ = outOf i x0 x1 x2 x3 x4 x5 x6 x7 x8 x9 10 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 10 0 x r l h1 (by simpa using h2)
  · refine (congrFun (?_ : _ = outOf i x0 x1 x2 x3 x4 x5 x6 x7 x8 x9 9 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 9 3 x r l h1 h2
  · refine (congrFun (?_ : _ = outOf i x0 x1 x2 x3 x4 x5 x6 x7 x8 x9 9 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 9 2 x r l h1 h2
  · refine (congrFun (?_ : _ = outOf i x0 x1 x2 x3 x4 x5 x6 x7 x8 x9 9 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 9 1 x r l h1 h2
  · refine (congrFun (?_ : _ = outOf i x0 x1 x2 x3 x4 x5 x6 x7 x8 x9 9 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 9 0 x r l h1 (by simpa using h2)
  · refine (congrFun (?_ : _ = outOf i x0 x1 x2 x3 x4 x5 x6 x7 x8 x9 8 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 8 3 x r l h1 h2
  · refine (congrFun (?_ : _ = outOf i x0 x1 x2 x3 x4 x5 x6 x7 x8 x9 8 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 8 2 x r l h1 h2
  · refine (congrFun (?_ : _ = outOf i x0 x1 x2 x3 x4 x5 x6 x7 x8 x9 8 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 8 1 x r l h1 h2
  · refine (congrFun (?_ : _ = outOf i x0 x1 x2 x3 x4 x5 x6 x7 x8 x9 8 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 8 0 x r l h1 (by simpa using h2)
  · exact absurd h1 (away x 7 r (by omega))
  · exact absurd h1 (away x 7 r (by omega))
  · exact absurd h1 (away x 7 r (by omega))
  · exact absurd h1 (away x 7 r (by omega))
  · exact absurd h1 (away x 6 r (by omega))
  · exact absurd h1 (away x 6 r (by omega))
  · exact absurd h1 (away x 6 r (by omega))
  · exact absurd h1 (away x 6 r (by omega))
  · exact absurd h1 (away x 5 r (by omega))
  · exact absurd h1 (away x 5 r (by omega))
  · exact absurd h1 (away x 5 r (by omega))
  · exact absurd h1 (away x 5 r (by omega))
  · exact absurd h1 (away x 4 r (by omega))
  · exact absurd h1 (away x 4 r (by omega))
  · exact absurd h1 (away x 4 r (by omega))
  · exact absurd h1 (away x 4 r (by omega))
  · exact absurd h1 (away x 3 r (by omega))
  · exact absurd h1 (away x 3 r (by omega))
  · exact absurd h1 (away x 3 r (by omega))
  · exact absurd h1 (away x 3 r (by omega))
  · exact absurd h1 (away x 2 r (by omega))
  · exact absurd h1 (away x 2 r (by omega))
  · exact absurd h1 (away x 2 r (by omega))
  · exact absurd h1 (away x 2 r (by omega))
  · exact absurd h1 (away x 1 r (by omega))
  · exact absurd h1 (away x 1 r (by omega))
  · exact absurd h1 (away x 1 r (by omega))
  · exact absurd h1 (away x 1 r (by omega))
  · exact absurd (by simpa using h1) (away x 0 r (by omega))
  · exact absurd (by simpa using h1) (away x 0 r (by omega))
  · exact absurd (by simpa using h1) (away x 0 r (by omega))
  · exact absurd (by simpa using h1) (away x 0 r (by omega))

end Cert.AttnIdeal.Tile

end
-- ==== Proof.AttnTilesD.lean ====
/- What a grid point of the local attention kernel leaves in rows 1536 to 2047 of its block of the result: each stored tile is four units. -/
module

public import proofs.«01_k».proof.Proof.AttnRows
public import proofs.«01_k».proof.Proof.Gen.AttnIdeal.Value
public import Idealize.ShloMosaic.Lib.Pointwise
public import Idealize.ShloMosaic.Lib.Pipeline.ValueKit
public import Idealize.ShloMosaic.Lib.Claim

@[expose] public section

set_option maxRecDepth 16384

noncomputable section

namespace Cert.AttnIdeal.Tile

open Idealize Idealize.ShloMosaic Cert.AttnIdeal Cert.AttnIdeal.Gen Idealize.ShloMosaic.TcCoe

set_option maxHeartbeats 4000000 in
/-- The block a grid point leaves, at a row of this range and a lane. -/
theorem tilesD (c : Dev nD) (i : grid0.Coords) (arg2 : Memref sig .tc .smem S8 .f32) (harg2 : arg2.IsWhole) (arg3 : Memref sig .tc .vmem S1x2048x512 .f32) (harg3 : arg3.IsWhole) (arg4 : Memref sig .tc .vmem S1x128x256 .bf16) (harg4 : arg4.IsWhole) (arg5 : Memref sig .tc .vmem S1x2048x256 .bf16) (harg5 : arg5.IsWhole) (arg6 : Memref sig .tc .vmem S1x128x256 .bf16) (harg6 : arg6.IsWhole) (arg7 : Memref sig .tc .vmem S1x256x128 .bf16) (harg7 : arg7.IsWhole) (arg8 : Memref sig .tc .vmem S1x256x2048 .bf16) (harg8 : arg8.IsWhole) (arg9 : Memref sig .tc .vmem S1x256x128 .bf16) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x2048x512 .bf16) (harg12 : arg12.IsWhole)
    (x0 : Vec Ideal S8 .f32) (x1 : Vec Ideal S1x2048x512 .f32) (x2 : Vec Ideal S1x128x256 .bf16) (x3 : Vec Ideal S1x2048x256 .bf16) (x4 : Vec Ideal S1x128x256 .bf16) (x5 : Vec Ideal S1x256x128 .bf16) (x6 : Vec Ideal S1x256x2048 .bf16) (x7 : Vec Ideal S1x256x128 .bf16) (x8 : Vec Ideal S1x256x256 .bf16) (x9 : Vec Ideal S1x256x256 .bf16) (r : Fin 2048) (l : Fin 512)
    (hr : 1536 ≤ r.val) (hr' : r.val < 2048) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9 (ix3 0 r l)
      = outAt i x0 x1 x2 x3 x4 x5 x6 x7 x8 x9 r l := by
  frame_out
  canon_tiles x h
  · refine (congrFun (?_ : _ = outOf i x0 x1 x2 x3 x4 x5 x6 x7 x8 x9 15 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 15 3 x r l h1 h2
  · refine (congrFun (?_ : _ = outOf i x0 x1 x2 x3 x4 x5 x6 x7 x8 x9 15 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 15 2 x r l h1 h2
  · refine (congrFun (?_ : _ = outOf i x0 x1 x2 x3 x4 x5 x6 x7 x8 x9 15 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 15 1 x r l h1 h2
  · refine (congrFun (?_ : _ = outOf i x0 x1 x2 x3 x4 x5 x6 x7 x8 x9 15 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 15 0 x r l h1 (by simpa using h2)
  · refine (congrFun (?_ : _ = outOf i x0 x1 x2 x3 x4 x5 x6 x7 x8 x9 14 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 14 3 x r l h1 h2
  · refine (congrFun (?_ : _ = outOf i x0 x1 x2 x3 x4 x5 x6 x7 x8 x9 14 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 14 2 x r l h1 h2
  · refine (congrFun (?_ : _ = outOf i x0 x1 x2 x3 x4 x5 x6 x7 x8 x9 14 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 14 1 x r l h1 h2
  · refine (congrFun (?_ : _ = outOf i x0 x1 x2 x3 x4 x5 x6 x7 x8 x9 14 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 14 0 x r l h1 (by simpa using h2)
  · refine (congrFun (?_ : _ = outOf i x0 x1 x2 x3 x4 x5 x6 x7 x8 x9 13 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 13 3 x r l h1 h2
  · refine (congrFun (?_ : _ = outOf i x0 x1 x2 x3 x4 x5 x6 x7 x8 x9 13 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 13 2 x r l h1 h2
  · refine (congrFun (?_ : _ = outOf i x0 x1 x2 x3 x4 x5 x6 x7 x8 x9 13 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 13 1 x r l h1 h2
  · refine (congrFun (?_ : _ = outOf i x0 x1 x2 x3 x4 x5 x6 x7 x8 x9 13 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 13 0 x r l h1 (by simpa using h2)
  · refine (congrFun (?_ : _ = outOf i x0 x1 x2 x3 x4 x5 x6 x7 x8 x9 12 3) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 12 3 x r l h1 h2
  · refine (congrFun (?_ : _ = outOf i x0 x1 x2 x3 x4 x5 x6 x7 x8 x9 12 2) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 12 2 x r l h1 h2
  · refine (congrFun (?_ : _ = outOf i x0 x1 x2 x3 x4 x5 x6 x7 x8 x9 12 1) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 12 1 x r l h1 h2
  · refine (congrFun (?_ : _ = outOf i x0 x1 x2 x3 x4 x5 x6 x7 x8 x9 12 0) x).trans ?_
    · (try rw [harg2.read_unread]); (try rw [harg3.read_unread]); (try rw [harg4.read_unread]); (try rw [harg5.read_unread])
      (try rw [harg6.read_unread]); (try rw [harg7.read_unread]); (try rw [harg8.read_unread]); (try rw [harg9.read_unread])
      (try rw [harg10.read_unread]); (try rw [harg11.read_unread])
      sl_kernel_rfl
    · exact outAt_of i x0 x1 x2 x3 x4 x5 x6 x7 x8 x9 12 0 x r l h1 (by simpa using h2)
  · exact absurd h1 (away x 11 r (by omega))
  · exact absurd h1 (away x 11 r (by omega))
  · exact absurd h1 (away x 11 r (by omega))
  · exact absurd h1 (away x 11 r (by omega))
  · exact absurd h1 (away x 10 r (by omega))
  · exact absurd h1 (away x 10 r (by omega))
  · exact absurd h1 (away x 10 r (by omega))
  · exact absurd h1 (away x 10 r (by omega))
  · exact absurd h1 (away x 9 r (by omega))
  · exact absurd h1 (away x 9 r (by omega))
  · exact absurd h1 (away x 9 r (by omega))
  · exact absurd h1 (away x 9 r (by omega))
  · exact absurd h1 (away x 8 r (by omega))
  · exact absurd h1 (away x 8 r (by omega))
  · exact absurd h1 (away x 8 r (by omega))
  · exact absurd h1 (away x 8 r (by omega))
  · exact absurd h1 (away x 7 r (by omega))
  · exact absurd h1 (away x 7 r (by omega))
  · exact absurd h1 (away x 7 r (by omega))
  · exact absurd h1 (away x 7 r (by omega))
  · exact absurd h1 (away x 6 r (by omega))
  · exact absurd h1 (away x 6 r (by omega))
  · exact absurd h1 (away x 6 r (by omega))
  · exact absurd h1 (away x 6 r (by omega))
  · exact absurd h1 (away x 5 r (by omega))
  · exact absurd h1 (away x 5 r (by omega))
  · exact absurd h1 (away x 5 r (by omega))
  · exact absurd h1 (away x 5 r (by omega))
  · exact absurd h1 (away x 4 r (by omega))
  · exact absurd h1 (away x 4 r (by omega))
  · exact absurd h1 (away x 4 r (by omega))
  · exact absurd h1 (away x 4 r (by omega))
  · exact absurd h1 (away x 3 r (by omega))
  · exact absurd h1 (away x 3 r (by omega))
  · exact absurd h1 (away x 3 r (by omega))
  · exact absurd h1 (away x 3 r (by omega))
  · exact absurd h1 (away x 2 r (by omega))
  · exact absurd h1 (away x 2 r (by omega))
  · exact absurd h1 (away x 2 r (by omega))
  · exact absurd h1 (away x 2 r (by omega))
  · exact absurd h1 (away x 1 r (by omega))
  · exact absurd h1 (away x 1 r (by omega))
  · exact absurd h1 (away x 1 r (by omega))
  · exact absurd h1 (away x 1 r (by omega))
  · exact absurd (by simpa using h1) (away x 0 r (by omega))
  · exact absurd (by simpa using h1) (away x 0 r (by omega))
  · exact absurd (by simpa using h1) (away x 0 r (by omega))
  · exact absurd (by simpa using h1) (away x 0 r (by omega))

end Cert.AttnIdeal.Tile

end
-- ==== Proof.AttnTiles.lean ====
/- What a grid point of the local attention kernel leaves in its block of the result. -/
module

public import proofs.«01_k».proof.Proof.AttnTilesA
public import proofs.«01_k».proof.Proof.AttnTilesB
public import proofs.«01_k».proof.Proof.AttnTilesC
public import proofs.«01_k».proof.Proof.AttnTilesD
public import proofs.«01_k».proof.Proof.Gen.AttnIdeal.Value
public import Idealize.ShloMosaic.Lib.Pointwise
public import Idealize.ShloMosaic.Lib.Pipeline.ValueKit
public import Idealize.ShloMosaic.Lib.Claim

@[expose] public section

set_option maxRecDepth 16384

noncomputable section

namespace Cert.AttnIdeal.Tile

open Idealize Idealize.ShloMosaic Cert.AttnIdeal Cert.AttnIdeal.Gen Idealize.ShloMosaic.TcCoe

/-- The block a grid point leaves, at a row and a lane. -/
theorem tiles (c : Dev nD) (i : grid0.Coords) (arg2 : Memref sig .tc .smem S8 .f32) (harg2 : arg2.IsWhole) (arg3 : Memref sig .tc .vmem S1x2048x512 .f32) (harg3 : arg3.IsWhole) (arg4 : Memref sig .tc .vmem S1x128x256 .bf16) (harg4 : arg4.IsWhole) (arg5 : Memref sig .tc .vmem S1x2048x256 .bf16) (harg5 : arg5.IsWhole) (arg6 : Memref sig .tc .vmem S1x128x256 .bf16) (harg6 : arg6.IsWhole) (arg7 : Memref sig .tc .vmem S1x256x128 .bf16) (harg7 : arg7.IsWhole) (arg8 : Memref sig .tc .vmem S1x256x2048 .bf16) (harg8 : arg8.IsWhole) (arg9 : Memref sig .tc .vmem S1x256x128 .bf16) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x2048x512 .bf16) (harg12 : arg12.IsWhole)
    (x0 : Vec Ideal S8 .f32) (x1 : Vec Ideal S1x2048x512 .f32) (x2 : Vec Ideal S1x128x256 .bf16) (x3 : Vec Ideal S1x2048x256 .bf16) (x4 : Vec Ideal S1x128x256 .bf16) (x5 : Vec Ideal S1x256x128 .bf16) (x6 : Vec Ideal S1x256x2048 .bf16) (x7 : Vec Ideal S1x256x128 .bf16) (x8 : Vec Ideal S1x256x256 .bf16) (x9 : Vec Ideal S1x256x256 .bf16) (r : Fin 2048) (l : Fin 512) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9 (ix3 0 r l)
      = outAt i x0 x1 x2 x3 x4 x5 x6 x7 x8 x9 r l := by
  have hr := r.isLt
  by_cases h1 : r.val < 512
  · exact tilesA c i arg2 harg2 arg3 harg3 arg4 harg4 arg5 harg5 arg6 harg6 arg7 harg7 arg8 harg8 arg9 harg9 arg10 harg10 arg11 harg11 arg12 harg12 x0 x1 x2 x3 x4 x5 x6 x7 x8 x9 r l (Nat.zero_le _) h1
  · by_cases h2 : r.val < 1024
    · exact tilesB c i arg2 harg2 arg3 harg3 arg4 harg4 arg5 harg5 arg6 harg6 arg7 harg7 arg8 harg8 arg9 harg9 arg10 harg10 arg11 harg11 arg12 harg12 x0 x1 x2 x3 x4 x5 x6 x7 x8 x9 r l (by omega) h2
    · by_cases h3 : r.val < 1536
      · exact tilesC c i arg2 harg2 arg3 harg3 arg4 harg4 arg5 harg5 arg6 harg6 arg7 harg7 arg8 harg8 arg9 harg9 arg10 harg10 arg11 harg11 arg12 harg12 x0 x1 x2 x3 x4 x5 x6 x7 x8 x9 r l (by omega) h3
      · exact tilesD c i arg2 harg2 arg3 harg3 arg4 harg4 arg5 harg5 arg6 harg6 arg7 harg7 arg8 harg8 arg9 harg9 arg10 harg10 arg11 harg11 arg12 harg12 x0 x1 x2 x3 x4 x5 x6 x7 x8 x9 r l (by omega) hr

end Cert.AttnIdeal.Tile

end
-- ==== Proof.AttnArray.lean ====
/- The array that the local attention's grid leaves behind, as a function of the arrays it starts from. -/
module

public import proofs.«01_k».proof.Proof.AttnMean
public import proofs.«01_k».proof.Proof.AttnReads
public import proofs.«01_k».proof.Proof.AttnTiles
public import Idealize.ShloMosaic.Lib.Pipeline.ValueKit
public import Idealize.ShloMosaic.Lib.Claim

@[expose] public section

set_option maxRecDepth 16384

noncomputable section

namespace Cert.AttnIdeal.Tile

open Idealize Idealize.ShloMosaic Cert.AttnIdeal Cert.AttnIdeal.Gen Idealize.ShloMosaic.TcCoe Idealize.SL.Sem Cert.AttnRefIdeal.Row AttnSoft
open Idealize.ShloMosaic.Pipeline (Dat)

variable (m : (ℓ : Loc nD τ sig) → Buf (Elt Ideal) ℓ)

/-- The result array as a function of the arrays that the region finds. -/
def G (c : Dev nD) (x : S8x8192x512.Idx) : EReal :=
  meanAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (x 0) (x 1) (x 2)

/-- No element is infinite. -/
def AllFinite {s : Shape} (x : s.Idx → EReal) : Prop := ∀ i, x i ≠ ⊤ ∧ x i ≠ ⊥

/-- The sinks, queries, keys and context keys are finite. -/
def Finite (c : Dev nD) : Prop :=
  AllFinite (s := S8) (m ((c : Thread nD τ).loc main_arg0)) ∧ AllFinite (s := S8x8192x512) (m ((c : Thread nD τ).loc main_arg1))
    ∧ AllFinite (s := S8x8192x128) (m ((c : Thread nD τ).loc main_arg2)) ∧ AllFinite (s := S8x256x128) (m ((c : Thread nD τ).loc main_arg4))

/-- Grid point `t` writes the token rows of its block. -/
theorem point (c : Dev nD) (hm : Finite m c) (t : Fin cfg0.N) (y : Fin 2048) (l : Fin 512) (b : Fin 8) (i : Fin 4)
    (hb : (grid0.coords t 0).val = b.val) (hi : (grid0.coords t 1).val = i.val) :
    outAt (grid0.coords t) (iblk m c 0 t) (iblk m c 1 t) (iblk m c 2 t) (iblk m c 3 t) (iblk m c 4 t) (iblk m c 5 t) (iblk m c 6 t) (iblk m c 7 t) (iblk m c 8 t) (iblk m c 9 t) y l
      = G m c (ix3 b ⟨i.val * 2048 + y.val, by omega⟩ l) :=
  outAt_mean (grid0.coords t) (iblk m c 0 t) (iblk m c 1 t) (iblk m c 2 t) (iblk m c 3 t) (iblk m c 4 t) (iblk m c 5 t) (iblk m c 6 t) (iblk m c 7 t) (iblk m c 8 t) (iblk m c 9 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b i
    (read_sink m c t) (read_q m c t b i hb hi)
    (fun y l => (read_kp m c t b i hb hi y l).trans (kd_entry m c b _ l))
    (fun y l => (read_ko m c t b i hb hi y l).trans (kd_entry m c b _ l))
    (fun y l => (read_kn m c t b i hb hi y l).trans (kd_entry m c b _ l))
    (fun r y => (read_vp m c t b i hb hi r y).trans (vt_entry m c b r _))
    (fun r y => (read_vo m c t b i hb hi r y).trans (vt_entry m c b r _))
    (fun r y => (read_vn m c t b i hb hi r y).trans (vt_entry m c b r _))
    (fun n l => (read_ck m c t b hb n l).trans (ckd_entry m c b n l))
    (fun r n => (read_cv m c t b i hb r n).trans (cvt_entry m c b r n))
    hi hm.1 hm.2.1 hm.2.2.1 hm.2.2.2 y l

set_option maxHeartbeats 4000000 in
/-- The result array after the run. -/
theorem final (c : Dev nD) (hm : Finite m c) : (dats m 0 c).arrAt 10 cfg0.N = G m c := by
  refine (dats m 0 c).arrAt_eq_of_covers 10 _ (by decide +kernel) fun t hf y => ?_
  blk_simp
  rw [after0_10]
  idx_vars y
  obtain rfl : y0 = 0 := Subsingleton.elim _ _
  have hb : (grid0.coords t 0).val < 8 := (grid0.coords t 0).isLt
  have hn : (grid0.coords t 1).val < 4 := (grid0.coords t 1).isLt
  unfold outsAt0
  rw [tiles, point m c hm t y1 y2 ⟨(grid0.coords t 0).val, hb⟩ ⟨(grid0.coords t 1).val, hn⟩ rfl rfl]
  refine congrArg (G m c) ?_
  symm
  blk_ext [index_10 t]

end Cert.AttnIdeal.Tile

end
-- ==== Proof.AttnFinite.lean ====
/- What the precondition says of each element. -/
module

public import proofs.«01_k».proof.Defs
public import proofs.«01_k».proof.Proof.Gen.Pre_finite
public import Idealize.ShloMosaic.Lib.Pointwise

@[expose] public section

set_option maxRecDepth 16384

noncomputable section

namespace Cert.Pre_finite.Facts

open Idealize.ShloMosaic Cert.Pre_finite

attribute [local instance] Cert.Pre_finite.Gen.facts

variable (a0 : FVec Ideal S8 .f32) (a1 : FVec Ideal S8x8192x512 .f32) (a2 a3 : FVec Ideal S8x8192x128 .f32) (a4 a5 : FVec Ideal S8x256x128 .f32)

theorem elem (x : EReal) (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  constructor
  · rintro rfl
    rw [max_eq_left le_top] at h
    simp [Ideal.cmp] at h
  · rintro rfl
    rw [EReal.neg_bot, max_eq_right le_top] at h
    simp [Ideal.cmp] at h

theorem sinks_finite (h : (fn (F := Ideal) a0 a1 a2 a3 a4 a5).1 = fun _ => 1#1) (i : S8.Idx) : (a0 i : EReal) ≠ ⊤ ∧ (a0 i : EReal) ≠ ⊥ :=
  elem (a0 i) (congrFun h i)

theorem queries_finite (h : (fn (F := Ideal) a0 a1 a2 a3 a4 a5).2.1 = fun _ => 1#1) (i : S8x8192x512.Idx) : (a1 i : EReal) ≠ ⊤ ∧ (a1 i : EReal) ≠ ⊥ :=
  elem (a1 i) (congrFun h i)

theorem keys_finite (h : (fn (F := Ideal) a0 a1 a2 a3 a4 a5).2.2.1 = fun _ => 1#1) (i : S8x8192x128.Idx) : (a2 i : EReal) ≠ ⊤ ∧ (a2 i : EReal) ≠ ⊥ :=
  elem (a2 i) (congrFun h i)

theorem context_finite (h : (fn (F := Ideal) a0 a1 a2 a3 a4 a5).2.2.2 = fun _ => 1#1) (i : S8x256x128.Idx) : (a4 i : EReal) ≠ ⊤ ∧ (a4 i : EReal) ≠ ⊥ :=
  elem (a4 i) (congrFun h i)

end Cert.Pre_finite.Facts

end
-- ==== Proof.AttnClaim.lean ====
/- The local attention call: its claims. -/
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.AttnArray
public import proofs.«01_k».proof.Proof.AttnFinite
public import proofs.«01_k».proof.Proof.AttnRefRow
public import Idealize.ShloMosaic.Lib.Claim

@[expose] public section

set_option maxRecDepth 16384

noncomputable section

namespace Cert.Proof.Attn

open Idealize.ShloMosaic Idealize.SL.Sem Cert.AttnRefIdeal.Row

theorem quiescent : Cert.quiescent_Attn (hAttn := Cert.Attn.Gen.facts) := fun m g _ => Cert.Attn.Gen.frame m g

theorem quiescentIdeal : Cert.quiescent_AttnIdeal (hAttnIdeal := Cert.AttnIdeal.Gen.facts) := fun m g _ => Cert.AttnIdeal.Gen.frame m g

theorem quiescentIdealPre : Cert.quiescent_AttnIdeal_pre_finite (hAttnIdeal := Cert.AttnIdeal.Gen.facts) (hPre_finite := Cert.Pre_finite.Gen.facts) :=
  fun m g _ => Cert.AttnIdeal.Gen.frame m g

theorem quiescentRef : Cert.quiescent_AttnRefIdeal (hAttnRefIdeal := Cert.AttnRefIdeal.Gen.facts) := fun m g _ =>
  (θ_run Cert.AttnRefIdeal.defs _ _).mono (fun r h => And.intro (fun c => (h c).2) (sem_eq_zero_of_no_sems (by decide) r.2))
    (Cert.AttnRefIdeal.Value.run (F := Ideal) m g)

theorem quiescentRefPre : Cert.quiescent_AttnRefIdeal_pre_finite (hAttnRefIdeal := Cert.AttnRefIdeal.Gen.facts) (hPre_finite := Cert.Pre_finite.Gen.facts) :=
  fun m g _ =>
  (θ_run Cert.AttnRefIdeal.defs _ _).mono (fun r h => And.intro (fun c => (h c).2) (sem_eq_zero_of_no_sems (by decide) r.2))
    (Cert.AttnRefIdeal.Value.run (F := Ideal) m g)

theorem preserves : Cert.preserves_Attn_AttnIdeal :=
  ⟨IdealRules.named_const.statement Cert.AttnIdeal.κ "scale" .f32 0x3E38AA3B#32 (((1 / 8) * (Real.log 2)⁻¹ : ℝ) : EReal) rfl,
    IdealRules.named_const.statement Cert.AttnIdeal.κ "mask" .f32 0xF149F2CA#32 ⊥ rfl,
    IdealRules.named_const.statement Cert.AttnIdeal.κ "log2e" .f32 0x3FB8AA3B#32 (((Real.log 2)⁻¹ : ℝ) : EReal) rfl⟩

/-- The reference's run, its result as a function of its arguments. -/
theorem run_ref (m : (ℓ : Loc Cert.AttnRefIdeal.nD Cert.AttnRefIdeal.τ Cert.AttnRefIdeal.sig) → Buf (Elt Ideal) ℓ) (g : Dev Cert.AttnRefIdeal.nD → PrngReg) :
    θ_run (Cert.AttnRefIdeal.defs (F := Ideal)) (onTc (τ := Cert.AttnRefIdeal.τ) (Cert.AttnRefIdeal.main (F := Ideal))) ⟨m, fun _ => 0, g⟩ fun r => ∀ c : Dev Cert.AttnRefIdeal.nD,
      r.2.mem ((c.tc : Thread Cert.AttnRefIdeal.nD Cert.AttnRefIdeal.τ).loc Cert.AttnRefIdeal.main_v85) = Cert.AttnRefIdeal.Read.val_main_v85 (F := Ideal)
      (m ((c.tc : Thread Cert.AttnRefIdeal.nD Cert.AttnRefIdeal.τ).loc Cert.AttnRefIdeal.main_arg0))
      (m ((c.tc : Thread Cert.AttnRefIdeal.nD Cert.AttnRefIdeal.τ).loc Cert.AttnRefIdeal.main_arg1))
      (m ((c.tc : Thread Cert.AttnRefIdeal.nD Cert.AttnRefIdeal.τ).loc Cert.AttnRefIdeal.main_arg2))
      (m ((c.tc : Thread Cert.AttnRefIdeal.nD Cert.AttnRefIdeal.τ).loc Cert.AttnRefIdeal.main_arg3))
      (m ((c.tc : Thread Cert.AttnRefIdeal.nD Cert.AttnRefIdeal.τ).loc Cert.AttnRefIdeal.main_arg4))
      (m ((c.tc : Thread Cert.AttnRefIdeal.nD Cert.AttnRefIdeal.τ).loc Cert.AttnRefIdeal.main_arg5))
      ∧ r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5) :=
  (θ_run Cert.AttnRefIdeal.defs _ _).mono (fun _ h c => ⟨(h c).1.trans (Cert.AttnRefIdeal.Read.val_main_v85_eq (F := Ideal) m c), (h c).2⟩)
    (Cert.AttnRefIdeal.Value.run (F := Ideal) m g)

/-- The precondition makes the sinks, queries, keys and context keys finite. -/
theorem finite_of (m : (ℓ : Loc Cert.AttnIdeal.nD Cert.AttnIdeal.τ Cert.AttnIdeal.sig) → Buf (Elt Ideal) ℓ)
    (h : Cert.Pre_AttnIdeal_finite (hPre_finite := Cert.Pre_finite.Gen.facts) m) (c : Dev Cert.AttnIdeal.nD) : Cert.AttnIdeal.Tile.Finite m c :=
  ⟨Cert.Pre_finite.Facts.sinks_finite _ _ _ _ _ _ (h c).1, Cert.Pre_finite.Facts.queries_finite _ _ _ _ _ _ (h c).2.1,
    Cert.Pre_finite.Facts.keys_finite _ _ _ _ _ _ (h c).2.2.1, Cert.Pre_finite.Facts.context_finite _ _ _ _ _ _ (h c).2.2.2⟩

/-- The array that the kernel leaves is the reference's result at the same arguments. -/
theorem value (m : (ℓ : Loc Cert.AttnIdeal.nD Cert.AttnIdeal.τ Cert.AttnIdeal.sig) → Buf (Elt Ideal) ℓ) (c : Dev Cert.AttnIdeal.nD)
    (hm : Cert.AttnIdeal.Tile.Finite m c) :
    Cert.AttnIdeal.Tile.G m c = Cert.AttnRefIdeal.Read.val_main_v85 (F := Ideal)
      (m ((c.tc : Thread Cert.AttnIdeal.nD Cert.AttnIdeal.τ).loc Cert.AttnIdeal.main_arg0))
      (m ((c.tc : Thread Cert.AttnIdeal.nD Cert.AttnIdeal.τ).loc Cert.AttnIdeal.main_arg1))
      (m ((c.tc : Thread Cert.AttnIdeal.nD Cert.AttnIdeal.τ).loc Cert.AttnIdeal.main_arg2))
      (m ((c.tc : Thread Cert.AttnIdeal.nD Cert.AttnIdeal.τ).loc Cert.AttnIdeal.main_arg3))
      (m ((c.tc : Thread Cert.AttnIdeal.nD Cert.AttnIdeal.τ).loc Cert.AttnIdeal.main_arg4))
      (m ((c.tc : Thread Cert.AttnIdeal.nD Cert.AttnIdeal.τ).loc Cert.AttnIdeal.main_arg5)) := by
  funext i
  obtain ⟨b, t, l, rfl⟩ : ∃ (b : Fin 8) (t : Fin 8192) (l : Fin 512), i = ix3 b t l := ⟨i 0, i 1, i 2, eq_ix3 i⟩
  exact ((res_at (b := b) _ _ t l).trans (mean_at _ _ (fun j => Cert.AttnIdeal.Tile.near_ne_top hm.2.1 hm.2.2.1 _ _ _ _ _ j)
    (fun c => Cert.AttnIdeal.Tile.far_ne_top hm.2.1 hm.2.2.2 _ _ _ _ _ c) (hm.1 _).1 (hm.1 _).2 _)).symm

theorem algebraic : Cert.algebraic_AttnIdeal_AttnRefIdeal_pre_finite (hAttnIdeal := Cert.AttnIdeal.Gen.facts) (hAttnRefIdeal := Cert.AttnRefIdeal.Gen.facts)
    (hPre_finite := Cert.Pre_finite.Gen.facts) := by
  intro m g m' g' hpre hagree
  refine ⟨fun c => Cert.AttnRefIdeal.Read.val_main_v85 (F := Ideal)
      (m ((c.tc : Thread Cert.AttnIdeal.nD Cert.AttnIdeal.τ).loc Cert.AttnIdeal.main_arg0))
      (m ((c.tc : Thread Cert.AttnIdeal.nD Cert.AttnIdeal.τ).loc Cert.AttnIdeal.main_arg1))
      (m ((c.tc : Thread Cert.AttnIdeal.nD Cert.AttnIdeal.τ).loc Cert.AttnIdeal.main_arg2))
      (m ((c.tc : Thread Cert.AttnIdeal.nD Cert.AttnIdeal.τ).loc Cert.AttnIdeal.main_arg3))
      (m ((c.tc : Thread Cert.AttnIdeal.nD Cert.AttnIdeal.τ).loc Cert.AttnIdeal.main_arg4))
      (m ((c.tc : Thread Cert.AttnIdeal.nD Cert.AttnIdeal.τ).loc Cert.AttnIdeal.main_arg5)), ?_, ?_⟩
  · exact (θ_run Cert.AttnIdeal.defs _ _).mono
      (fun _ h c => ⟨(h c).1.trans ((Cert.AttnIdeal.Tile.final m c (finite_of m hpre c)).trans (value m c (finite_of m hpre c))), (h c).2⟩)
      (Cert.AttnIdeal.Value.run_blocks (F := Ideal) m g)
  · refine (θ_run Cert.AttnRefIdeal.defs _ _).mono (fun _ h c => ⟨(h c).1.trans ?_, (h c).2⟩) (run_ref m' g')
    obtain ⟨h0, h1, h2, h3, h4, h5⟩ := hagree c
    exact congr (congr (congr (congr (congr (congrArg Cert.AttnRefIdeal.Read.val_main_v85 h0) h1) h2) h3) h4) h5

end Cert.Proof.Attn

end
-- ==== Proof.FFRow.lean ====
/- One row of the output projection and feed-forward block, as a function of the row's own inputs and of the weights.
   Both the kernel's tile and the plain reference are read as this function; nothing here mentions either program. -/
module

public import Idealize.ShloMosaic.Lib.Pointwise

@[expose] public section

set_option maxRecDepth 16384

noncomputable section

namespace Cert.FFRow

open Idealize.ShloMosaic

/-- The number that is added under the root. -/
abbrev eps : EReal := Ideal.ofBits .f32 0x358637BD#32
/-- The divisors of the means, over 1024, 512 and 256 lanes. -/
abbrev c1024 : EReal := Ideal.ofBits .f32 0x44800000#32
abbrev c512 : EReal := Ideal.ofBits .f32 0x44000000#32
abbrev c256 : EReal := Ideal.ofBits .f32 0x43800000#32

/-- The reciprocal root of a row's mean square. -/
def rs {n : ℕ} (c : EReal) (v : Fin n → EReal) : EReal :=
  Ideal.rsqrt (Ideal.div (∑ j, v j * v j) c + eps)

/-- The three normalised parts side by side: 512 attention lanes, 256 gated lanes, 256 mixed lanes. -/
def mix (a : Fin 512 → EReal) (s f : Fin 256 → EReal) (g : Fin 1024 → EReal) (k : Fin 1024) : EReal :=
  if h : k.val < 512 then a ⟨k.val, h⟩ * rs c512 a * g k
  else if h' : k.val - 512 < 256 then s ⟨k.val - 512, h'⟩ * rs c256 s * g k
  else f ⟨k.val - 512 - 256, by omega⟩ * rs c256 f * g k

/-- A row times a matrix. -/
def proj {n p : ℕ} (v : Fin n → EReal) (w : Fin n → Fin p → EReal) (l : Fin p) : EReal := ∑ k, v k * w k l

/-- A residual step: the row plus the normalised, scaled update. -/
def step (x y g : Fin 1024 → EReal) (l : Fin 1024) : EReal := x l + y l * rs c1024 y * g l

/-- The row that enters the feed-forward layer. -/
def hid (x g sh : Fin 1024 → EReal) (l : Fin 1024) : EReal := x l * rs c1024 x * g l + sh l

/-- The squared rectifier. -/
def act {p : ℕ} (u : Fin p → EReal) (k : Fin p) : EReal := max (u k) 0 * max (u k) 0

/-- The feed-forward layer on one row. -/
def ff (h : Fin 1024 → EReal) (w1 : Fin 1024 → Fin 4096 → EReal) (w2 : Fin 4096 → Fin 1024 → EReal) : Fin 1024 → EReal :=
  proj (act (proj h w1)) w2

/-- The whole row: `y` is the projected mix, `gA`, `gB`, `gC` the three gains with the modulation multiplied in. -/
def out (x y gA gB sh gC : Fin 1024 → EReal) (w1 : Fin 1024 → Fin 4096 → EReal) (w2 : Fin 4096 → Fin 1024 → EReal) : Fin 1024 → EReal :=
  step (step x y gA) (ff (hid (step x y gA) gB sh) w1 w2) gC

theorem out_congr {x x' y y' gA gA' gB gB' sh sh' gC gC' : Fin 1024 → EReal} {w1 w1' : Fin 1024 → Fin 4096 → EReal}
    {w2 w2' : Fin 4096 → Fin 1024 → EReal} (l : Fin 1024) (hx : x = x') (hy : y = y') (hA : gA = gA') (hB : gB = gB') (hs : sh = sh')
    (hC : gC = gC') (h1 : w1 = w1') (h2 : w2 = w2') : out x y gA gB sh gC w1 w2 l = out x' y' gA' gB' sh' gC' w1' w2' l := by
  subst hx hy hA hB hs hC h1 h2
  rfl

theorem proj_mix_congr {a a' : Fin 512 → EReal} {s s' f f' : Fin 256 → EReal} {g g' : Fin 1024 → EReal} {w w' : Fin 1024 → Fin 1024 → EReal}
    (ha : a = a') (hs : s = s') (hf : f = f') (hg : g = g') (hw : w = w') : proj (mix a s f g) w = proj (mix a' s' f' g') w' := by
  subst ha hs hf hg hw
  rfl

/-- The first and the second half of the hidden axis. -/
def lo (j : Fin 2048) : Fin 4096 := ⟨j.val, by omega⟩
def hi (j : Fin 2048) : Fin 4096 := ⟨2048 + j.val, by omega⟩

/-- The hidden axis taken in two halves. -/
theorem ff_halves (h : Fin 1024 → EReal) (w1 : Fin 1024 → Fin 4096 → EReal) (w2 : Fin 4096 → Fin 1024 → EReal) :
    ff h w1 w2 = fun l =>
      proj (act (proj h fun k j => w1 k (lo j))) (fun j l => w2 (lo j) l) l
      + proj (act (proj h fun k j => w1 k (hi j))) (fun j l => w2 (hi j) l) l := by
  funext l
  exact Fin.sum_univ_add (a := 2048) (b := 2048)
    (fun k : Fin (2048 + 2048) => act (proj h w1) k * w2 k l)

/-- Lane `o + l` of a token's six modulation vectors of 1024 lanes side by side. -/
def lane (o : Fin 6) (l : Fin 1024) : Fin 6144 := ⟨o.val * 1024 + l.val, by omega⟩

/-- Batch `b` among the table's sixteen. -/
def wide (b : Fin 8) : Fin 16 := ⟨b.val, by omega⟩

/-- The whole result: every token's row, given the projected mixes `y`. -/
def tokens (x : (⟨3, ![8, 8192, 1024]⟩ : Shape).Idx → EReal) (y : Fin 8 → Fin 8192 → Fin 1024 → EReal)
    (mod : (⟨4, ![2, 16, 1, 6144]⟩ : Shape).Idx → EReal) (gA gB gC : (⟨1, ![1024]⟩ : Shape).Idx → EReal)
    (w1 : (⟨2, ![1024, 4096]⟩ : Shape).Idx → EReal) (w2 : (⟨2, ![4096, 1024]⟩ : Shape).Idx → EReal)
    (b : Fin 8) (n : Fin 8192) : Fin 1024 → EReal :=
  out (fun l => x (ix3 b n l)) (y b n)
    (fun l => mod (ix4 1 (wide b) 0 (lane 2 l)) * gA (ix1 l)) (fun l => gB (ix1 l) * (1 + mod (ix4 1 (wide b) 0 (lane 4 l))))
    (fun l => mod (ix4 1 (wide b) 0 (lane 3 l))) (fun l => mod (ix4 1 (wide b) 0 (lane 5 l)) * gC (ix1 l))
    (fun k l => w1 (ix2 k l)) (fun k l => w2 (ix2 k l))

/-- A token's projected mix, from the three parts, the gain and the projection. -/
def mixed (a : (⟨3, ![8, 8192, 512]⟩ : Shape).Idx → EReal) (s f : (⟨3, ![8, 8192, 256]⟩ : Shape).Idx → EReal)
    (g : Fin 1024 → EReal) (w : Fin 1024 → Fin 1024 → EReal) (b : Fin 8) (n : Fin 8192) : Fin 1024 → EReal :=
  proj (mix (fun k => a (ix3 b n k)) (fun k => s (ix3 b n k)) (fun k => f (ix3 b n k)) g) w

end Cert.FFRow

end
-- ==== Proof.OutFFTile.lean ====
/- What one grid point of the output kernel computes: each of its two chunks of 512 rows is the row function of
   `Proof/FFRow.lean` on every row, read from the point's input blocks. -/
module

public import proofs.«01_k».proof.Proof.Gen.OutFFIdeal.Skeleton
public import proofs.«01_k».proof.Proof.FFRow

@[expose] public section

set_option maxRecDepth 16384

noncomputable section

namespace Cert.OutFFIdeal.Tile

open Cert.OutFFIdeal Cert.OutFFIdeal.Gen Idealize.ShloMosaic Cert.FFRow

/-! ## The first chunk -/

theorem mix_first (g : FVec Ideal S1x1024 .f32) (a : Vec Ideal S1x512x512 .bf16) (s f : Vec Ideal S1x512x256 .f32) (r : Fin 512) (l : Fin 1024) :
    k0_pay10 g (k0_pay7 a) (k0_pay8 a) (k0_pay9 (F := Ideal)) s f (ix2 r l)
      = mix (fun k => a (ix3 0 r k)) (fun k => s (ix3 0 r k)) (fun k => f (ix3 0 r k)) (fun k => g (ix2 0 k)) l := by
  pointwise [k0_pay10, k0_pay7, k0_pay8, k0_pay9, mix, rs]
  split
  · rfl
  · split
    · congr 3; apply Fin.ext; show 512 + (l.val - 512) = l.val; omega
    · congr 3; apply Fin.ext; show 768 + (l.val - 512 - 256) = l.val; omega

theorem step_first (gA : FVec Ideal S1x1024 .f32) (v : FVec Ideal S512x1024 .bf16) (w : FVec Ideal S1024x1024 .bf16) (x : Vec Ideal S1x512x1024 .f32) (r : Fin 512) (l : Fin 1024) :
    k0_pay12 gA v w x (ix2 r l)
      = step (fun l => x (ix3 0 r l)) (proj (fun k => v (ix2 r k)) fun k l => w (ix2 k l)) (fun l => gA (ix2 0 l)) l := by
  pointwise [k0_pay12, step, proj, rs]

theorem hid_first (gA gB sh : FVec Ideal S1x1024 .f32) (v : FVec Ideal S512x1024 .bf16) (w : FVec Ideal S1024x1024 .bf16) (x : Vec Ideal S1x512x1024 .f32) (r : Fin 512) (l : Fin 1024) :
    k0_pay13 gA gB sh v w x (ix2 r l)
      = hid (fun l => k0_pay12 gA v w x (ix2 r l)) (fun l => gB (ix2 0 l)) (fun l => sh (ix2 0 l)) l := by
  pointwise [k0_pay13, hid, rs]

theorem sq_first (gA gB sh : FVec Ideal S1x1024 .f32) (v : FVec Ideal S512x1024 .bf16) (w : FVec Ideal S1024x1024 .bf16) (x : Vec Ideal S1x512x1024 .f32) (w1 : Vec Ideal S1024x2048 .bf16) (r : Fin 512) (l : Fin 2048) :
    k0_pay14 gA gB sh v w x w1 (ix2 r l)
      = act (proj (fun l => k0_pay13 gA gB sh v w x (ix2 r l)) fun k l => w1 (ix2 k l)) l := by
  pointwise [k0_pay14, act, proj]

theorem sq_first' (gA gB sh : FVec Ideal S1x1024 .f32) (v : FVec Ideal S512x1024 .bf16) (w : FVec Ideal S1024x1024 .bf16) (x : Vec Ideal S1x512x1024 .f32) (w1 : Vec Ideal S1024x2048 .bf16) (r : Fin 512) (l : Fin 2048) :
    k0_pay17 (k0_pay15 gA gB sh v w x w1) (k0_pay16 (F := Ideal)) (ix2 r l)
      = act (proj (fun l => k0_pay13 gA gB sh v w x (ix2 r l)) fun k l => w1 (ix2 k l)) l := by
  pointwise [k0_pay17, k0_pay15, k0_pay16, act, proj]

theorem last_first (gC : FVec Ideal S1x1024 .f32) (x : FVec Ideal S512x1024 .f32) (u u' : FVec Ideal S512x2048 .bf16) (w w' : Vec Ideal S2048x1024 .bf16) (r : Fin 512) (l : Fin 1024) :
    k0_pay25 gC x u u' (k0_pay24 w) w' (ix3 0 r l)
      = step (fun l => x (ix2 r l))
          (fun l => proj (fun k => u (ix2 r k)) (fun k l => w (ix2 k l)) l + proj (fun k => u' (ix2 r k)) (fun k l => w' (ix2 k l)) l)
          (fun l => gC (ix2 0 l)) l := by
  pointwise [k0_pay25, k0_pay24, step, proj, rs]

/-! ## The second chunk -/

theorem step_second (g gA : FVec Ideal S1x1024 .f32) (a : Vec Ideal S1x512x512 .bf16) (s f : Vec Ideal S1x512x256 .f32) (w : Vec Ideal S1024x1024 .bf16) (x : Vec Ideal S1x512x1024 .f32) (r : Fin 512) (l : Fin 1024) :
    k0_pay22 g gA (k0_pay18 g a) (k0_pay19 g s) (k0_pay20 f) (k0_pay21 f) w x (ix2 r l)
      = step (fun l => x (ix3 0 r l))
          (proj (mix (fun k => a (ix3 0 r k)) (fun k => s (ix3 0 r k)) (fun k => f (ix3 0 r k)) (fun k => g (ix2 0 k))) fun k l => w (ix2 k l))
          (fun l => gA (ix2 0 l)) l := by
  show k0_pay12 gA (k0_pay10 g (k0_pay7 a) (k0_pay8 a) (k0_pay9 (F := Ideal)) s f) (k0_pay11 w) x (ix2 r l) = _
  rw [step_first]
  simp only [mix_first]
  pointwise [k0_pay11]

theorem hid_second (g gA gB sh : FVec Ideal S1x1024 .f32) (a : FVec Ideal S512x512 .bf16) (s : FVec Ideal S512x256 .bf16) (f : FVec Ideal S512x256 .f32) (c : FVec Ideal S512x1 .f32) (w : Vec Ideal S1024x1024 .bf16) (x : Vec Ideal S1x512x1024 .f32) (r : Fin 512) (l : Fin 1024) :
    k0_pay23 g gA gB sh a s f c w x (ix2 r l)
      = hid (fun l => k0_pay22 g gA a s f c w x (ix2 r l)) (fun l => gB (ix2 0 l)) (fun l => sh (ix2 0 l)) l := by
  pointwise [k0_pay23, hid, rs]

theorem last_second (gC : FVec Ideal S1x1024 .f32) (x : FVec Ideal S512x1024 .f32) (h : FVec Ideal S512x1024 .bf16) (w1 w1' : Vec Ideal S1024x2048 .bf16) (w w' : Vec Ideal S2048x1024 .bf16) (r : Fin 512) (l : Fin 1024) :
    k0_pay1 gC x (k0_pay26 h w1') (k0_pay27 h w1 w) w' (ix3 0 r l)
      = step (fun l => x (ix2 r l))
          (fun l => proj (act (proj (fun l => h (ix2 r l)) fun k l => w1 (ix2 k l))) (fun k l => w (ix2 k l)) l
            + proj (act (proj (fun l => h (ix2 r l)) fun k l => w1' (ix2 k l))) (fun k l => w' (ix2 k l)) l)
          (fun l => gC (ix2 0 l)) l := by
  pointwise [k0_pay1, k0_pay26, k0_pay27, step, proj, act, rs]

/-! ## A row of either chunk, from the values that the chunk loads -/

section Chunk

variable (b4 b5 b6 b7 : Vec Ideal S1x1x1x1024 .f32) (b8 b9 b10 b11 : Vec Ideal S1x1024 .f32) (w : Vec Ideal S1024x1024 .bf16)
  (w1 w1' : Vec Ideal S1024x2048 .bf16) (w2 w2' : Vec Ideal S2048x1024 .bf16)
  (x : Vec Ideal S1x512x1024 .f32) (a : Vec Ideal S1x512x512 .bf16) (s f : Vec Ideal S1x512x256 .f32)
  (W1 : Fin 1024 → Fin 4096 → EReal) (W2 : Fin 4096 → Fin 1024 → EReal)

/-- The row function at a chunk's loads. -/
def chunkRow (r : Fin 512) : Fin 1024 → EReal :=
  out (fun l => x (ix3 0 r l))
    (proj (mix (fun k => a (ix3 0 r k)) (fun k => s (ix3 0 r k)) (fun k => f (ix3 0 r k)) fun k => b8 (ix2 0 k)) fun k l => w (ix2 k l))
    (fun l => b4 (ix4 0 0 0 l) * b9 (ix2 0 l)) (fun l => b10 (ix2 0 l) * (1 + b5 (ix4 0 0 0 l))) (fun l => b6 (ix4 0 0 0 l))
    (fun l => b7 (ix4 0 0 0 l) * b11 (ix2 0 l)) W1 W2

variable {W1 W2} (h1 : ∀ k (j : Fin 2048), w1 (ix2 k j) = W1 k (lo j))
  (h1' : ∀ k (j : Fin 2048), w1' (ix2 k j) = W1 k (hi j))
  (h2 : ∀ (j : Fin 2048) l, w2 (ix2 j l) = W2 (lo j) l)
  (h2' : ∀ (j : Fin 2048) l, w2' (ix2 j l) = W2 (hi j) l)

include h1 h1' h2 h2'

theorem chunk_first (r : Fin 512) (l : Fin 1024) :
    k0_pay25 (k0_pay6 b7 b11)
        (k0_pay12 (k0_pay3 b4 b9) (k0_pay10 (k0_pay2 b8) (k0_pay7 a) (k0_pay8 a) k0_pay9 s f) (k0_pay11 w) x)
        (k0_pay14 (k0_pay3 b4 b9) (k0_pay4 b10 b5) (k0_pay5 b6) (k0_pay10 (k0_pay2 b8) (k0_pay7 a) (k0_pay8 a) k0_pay9 s f) (k0_pay11 w) x w1)
        (k0_pay17 (k0_pay15 (k0_pay3 b4 b9) (k0_pay4 b10 b5) (k0_pay5 b6) (k0_pay10 (k0_pay2 b8) (k0_pay7 a) (k0_pay8 a) k0_pay9 s f) (k0_pay11 w) x w1') k0_pay16)
        (k0_pay24 w2) w2' (ix3 0 r l)
      = chunkRow b4 b5 b6 b7 b8 b9 b10 b11 w x a s f W1 W2 r l := by
  rw [last_first]
  simp only [sq_first, sq_first', hid_first, step_first, mix_first]
  unfold chunkRow out
  rw [ff_halves]
  simp only [h1, h1', h2, h2']
  pointwise! [k0_pay6, k0_pay3, k0_pay4, k0_pay5, k0_pay2, k0_pay11]

theorem chunk_second (r : Fin 512) (l : Fin 1024) :
    k0_pay1 (k0_pay6 b7 b11)
        (k0_pay22 (k0_pay2 b8) (k0_pay3 b4 b9) (k0_pay18 (k0_pay2 b8) a) (k0_pay19 (k0_pay2 b8) s) (k0_pay20 f) (k0_pay21 f) w x)
        (k0_pay26 (k0_pay23 (k0_pay2 b8) (k0_pay3 b4 b9) (k0_pay4 b10 b5) (k0_pay5 b6) (k0_pay18 (k0_pay2 b8) a) (k0_pay19 (k0_pay2 b8) s) (k0_pay20 f) (k0_pay21 f) w x) w1')
        (k0_pay27 (k0_pay23 (k0_pay2 b8) (k0_pay3 b4 b9) (k0_pay4 b10 b5) (k0_pay5 b6) (k0_pay18 (k0_pay2 b8) a) (k0_pay19 (k0_pay2 b8) s) (k0_pay20 f) (k0_pay21 f) w x) w1 w2)
        w2' (ix3 0 r l)
      = chunkRow b4 b5 b6 b7 b8 b9 b10 b11 w x a s f W1 W2 r l := by
  rw [last_second]
  simp only [hid_second, step_second]
  unfold chunkRow out
  rw [ff_halves]
  simp only [h1, h1', h2, h2']
  pointwise! [k0_pay6, k0_pay3, k0_pay4, k0_pay5, k0_pay2]

end Chunk

end Cert.OutFFIdeal.Tile

end
-- ==== Proof.OutFFReads.lean ====
/- What the output kernel's result array holds after the run: at batch `b`, token `n`, the row function of
   `Proof/FFRow.lean` on that token's inputs. -/
module

public import proofs.«01_k».proof.Proof.Gen.OutFFIdeal.Value
public import proofs.«01_k».proof.Proof.OutFFTile
public import Idealize.ShloMosaic.Lib.Pipeline.ValueKit
public import Idealize.ShloMosaic.Lib.Claim

@[expose] public section

set_option maxRecDepth 16384

noncomputable section

namespace Cert.OutFFIdeal.Tile

open Cert.OutFFIdeal Cert.OutFFIdeal.Gen Idealize.ShloMosaic Idealize.ShloMosaic.TcCoe Idealize.SL.Sem Cert.FFRow
open Idealize.ShloMosaic.Pipeline (Dat)

/-- A token's row out of the fifteen blocks of its grid point. -/
theorem tile_row (x0 : Vec Ideal S1x1024x1024 .f32) (x1 : Vec Ideal S1x1024x512 .bf16) (x2 : Vec Ideal S1x1024x256 .f32) (x3 : Vec Ideal S1x1024x256 .f32) (x4 : Vec Ideal S1x1x1x1024 .f32) (x5 : Vec Ideal S1x1x1x1024 .f32) (x6 : Vec Ideal S1x1x1x1024 .f32) (x7 : Vec Ideal S1x1x1x1024 .f32) (x8 : Vec Ideal S1x1024 .f32) (x9 : Vec Ideal S1x1024 .f32) (x10 : Vec Ideal S1x1024 .f32) (x11 : Vec Ideal S1x1024 .f32) (x12 : Vec Ideal S1024x1024 .bf16) (x13 : Vec Ideal S1024x4096 .bf16) (x14 : Vec Ideal S4096x1024 .bf16)
    (r : Fin 1024) (l : Fin 1024) :
    out0_15 x0 x1 x2 x3 x4 x5 x6 x7 x8 x9 x10 x11 x12 x13 x14 (ix3 0 r l)
      = out (fun l => x0 (ix3 0 r l))
          (proj (mix (fun k => x1 (ix3 0 r k)) (fun k => x2 (ix3 0 r k)) (fun k => x3 (ix3 0 r k)) fun k => x8 (ix2 0 k)) fun k l => x12 (ix2 k l))
          (fun l => x4 (ix4 0 0 0 l) * x9 (ix2 0 l)) (fun l => x10 (ix2 0 l) * (1 + x5 (ix4 0 0 0 l))) (fun l => x6 (ix4 0 0 0 l))
          (fun l => x7 (ix4 0 0 0 l) * x11 (ix2 0 l)) (fun k l => x13 (ix2 k l)) (fun k l => x14 (ix2 k l)) l := by
  unfold_out out0_15
  generalize hi : (ix3 0 r l : S1x1024x1024.Idx) = i
  canon_tiles x h
  · obtain ⟨p, q, d, rfl⟩ : ∃ (p : Fin 1) (q : Fin 512) (d : Fin 1024), x = ix3 p q d := ⟨x 0, x 1, x 2, eq_ix3 x⟩
    subst hi
    obtain rfl : p = 0 := Subsingleton.elim _ _
    obtain rfl : l = d := Fin.ext h2
    obtain rfl : r = ⟨512 + q.val, Nat.add_lt_add_left q.isLt 512⟩ := Fin.ext h1
    rw [chunk_second (W1 := fun k j => x13 (ix2 k j)) (W2 := fun j l => x14 (ix2 j l)) (h1 := fun k j => by pointwise [lo])
      (h1' := fun k j => by pointwise [hi]) (h2 := fun k j => by pointwise [lo]) (h2' := fun k j => by pointwise [hi])]
    unfold chunkRow
    pointwise
  · obtain ⟨p, q, d, rfl⟩ : ∃ (p : Fin 1) (q : Fin 512) (d : Fin 1024), x = ix3 p q d := ⟨x 0, x 1, x 2, eq_ix3 x⟩
    subst hi
    obtain rfl : p = 0 := Subsingleton.elim _ _
    obtain rfl : l = d := Fin.ext h2
    obtain rfl : r = ⟨q.val, Nat.lt_of_lt_of_le q.isLt (by decide)⟩ := Fin.ext h1
    rw [chunk_first (W1 := fun k j => x13 (ix2 k j)) (W2 := fun j l => x14 (ix2 j l)) (h1 := fun k j => by pointwise [lo])
      (h1' := fun k j => by pointwise [hi]) (h2 := fun k j => by pointwise [lo]) (h2' := fun k j => by pointwise [hi])]
    unfold chunkRow
    pointwise

variable (m : (ℓ : Loc nD τ sig) → Buf (Elt Ideal) ℓ) (ρ : Dev nD → PrngReg)

/-- Where each window's block lies at grid point `t`: the token windows move with both coordinates, the four
    modulation windows with the first, the weights stay. -/
theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![1, (grid0.coords t 0).val, 0, 2]
    ∧ win0_5.index t = ![1, (grid0.coords t 0).val, 0, 4]
    ∧ win0_6.index t = ![1, (grid0.coords t 0).val, 0, 3]
    ∧ win0_7.index t = ![1, (grid0.coords t 0).val, 0, 5]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0]
    ∧ win0_15.index t = ![(grid0.coords t 0).val, (grid0.coords t 1).val, 0] :=
  (by decide +kernel : ∀ t : Fin grid0.N, _)

theorem index_0 (t : Fin cfg0.N) : win0_0.index t = ![(grid0.coords t 0).val, (grid0.coords t 1).val, 0] := (idx t).1
theorem index_1 (t : Fin cfg0.N) : win0_1.index t = ![(grid0.coords t 0).val, (grid0.coords t 1).val, 0] := (idx t).2.1
theorem index_2 (t : Fin cfg0.N) : win0_2.index t = ![(grid0.coords t 0).val, (grid0.coords t 1).val, 0] := (idx t).2.2.1
theorem index_3 (t : Fin cfg0.N) : win0_3.index t = ![(grid0.coords t 0).val, (grid0.coords t 1).val, 0] := (idx t).2.2.2.1
theorem index_4 (t : Fin cfg0.N) : win0_4.index t = ![1, (grid0.coords t 0).val, 0, 2] := (idx t).2.2.2.2.1
theorem index_5 (t : Fin cfg0.N) : win0_5.index t = ![1, (grid0.coords t 0).val, 0, 4] := (idx t).2.2.2.2.2.1
theorem index_6 (t : Fin cfg0.N) : win0_6.index t = ![1, (grid0.coords t 0).val, 0, 3] := (idx t).2.2.2.2.2.2.1
theorem index_7 (t : Fin cfg0.N) : win0_7.index t = ![1, (grid0.coords t 0).val, 0, 5] := (idx t).2.2.2.2.2.2.2.1
theorem index_8 (t : Fin cfg0.N) : win0_8.index t = ![0, 0] := (idx t).2.2.2.2.2.2.2.2.1
theorem index_9 (t : Fin cfg0.N) : win0_9.index t = ![0, 0] := (idx t).2.2.2.2.2.2.2.2.2.1
theorem index_10 (t : Fin cfg0.N) : win0_10.index t = ![0, 0] := (idx t).2.2.2.2.2.2.2.2.2.2.1
theorem index_11 (t : Fin cfg0.N) : win0_11.index t = ![0, 0] := (idx t).2.2.2.2.2.2.2.2.2.2.2.1
theorem index_12 (t : Fin cfg0.N) : win0_12.index t = ![0, 0] := (idx t).2.2.2.2.2.2.2.2.2.2.2.2.1
theorem index_13 (t : Fin cfg0.N) : win0_13.index t = ![0, 0] := (idx t).2.2.2.2.2.2.2.2.2.2.2.2.2.1
theorem index_14 (t : Fin cfg0.N) : win0_14.index t = ![0, 0] := (idx t).2.2.2.2.2.2.2.2.2.2.2.2.2.2.1
theorem index_15 (t : Fin cfg0.N) : win0_15.index t = ![(grid0.coords t 0).val, (grid0.coords t 1).val, 0] := (idx t).2.2.2.2.2.2.2.2.2.2.2.2.2.2.2

section Reads

variable (c : Dev nD) (t : Fin cfg0.N) (y1 : Fin 1024) (B : Fin 8) (N : Fin 8192) (hB' : (grid0.coords t 0).val = B.val)
  (hN' : (grid0.coords t 1).val * 1024 + y1.val = N.val)

include hB' hN' in
theorem read_0 : ∀ l, iblk m c 0 t (ix3 0 y1 l) = m ((c : Thread nD τ).loc main_arg0) (ix3 B N l) := by
  intro l
  blk_ext [iblk, V, index_0 t]

include hB' hN' in
theorem read_1 : ∀ l, iblk m c 1 t (ix3 0 y1 l) = m ((c : Thread nD τ).loc main_arg1) (ix3 B N l) := by
  intro l
  blk_ext [iblk, V, index_1 t]

include hB' hN' in
theorem read_2 : ∀ l, iblk m c 2 t (ix3 0 y1 l) = m ((c : Thread nD τ).loc main_arg2) (ix3 B N l) := by
  intro l
  blk_ext [iblk, V, index_2 t]

include hB' hN' in
theorem read_3 : ∀ l, iblk m c 3 t (ix3 0 y1 l) = m ((c : Thread nD τ).loc main_arg3) (ix3 B N l) := by
  intro l
  blk_ext [iblk, V, index_3 t]

include hB' in
theorem read_4 : ∀ l, iblk m c 4 t (ix4 0 0 0 l) = m ((c : Thread nD τ).loc main_arg4) (ix4 1 (wide B) 0 (lane 2 l)) := by
  intro l
  blk_ext [iblk, V, index_4 t, wide, lane]

include hB' in
theorem read_5 : ∀ l, iblk m c 5 t (ix4 0 0 0 l) = m ((c : Thread nD τ).loc main_arg4) (ix4 1 (wide B) 0 (lane 4 l)) := by
  intro l
  blk_ext [iblk, V, index_5 t, wide, lane]

include hB' in
theorem read_6 : ∀ l, iblk m c 6 t (ix4 0 0 0 l) = m ((c : Thread nD τ).loc main_arg4) (ix4 1 (wide B) 0 (lane 3 l)) := by
  intro l
  blk_ext [iblk, V, index_6 t, wide, lane]

include hB' in
theorem read_7 : ∀ l, iblk m c 7 t (ix4 0 0 0 l) = m ((c : Thread nD τ).loc main_arg4) (ix4 1 (wide B) 0 (lane 5 l)) := by
  intro l
  blk_ext [iblk, V, index_7 t, wide, lane]

theorem read_8 : ∀ l, iblk m c 8 t (ix2 0 l) = V m c main_v8 (ix2 0 l) := by
  intro l
  blk_ext [iblk, index_8 t]

theorem read_12 : ∀ k l, iblk m c 12 t (ix2 k l) = V m c main_v17 (ix2 k l) := by
  intro k l
  blk_ext [iblk, index_12 t]

theorem read_9 : ∀ l, iblk m c 9 t (ix2 0 l) = m ((c : Thread nD τ).loc main_arg7) (ix1 l) := by
  intro l
  exact (by blk_ext [iblk, index_9 t] : iblk m c 9 t (ix2 0 l) = V m c main_v18 (ix2 0 l)).trans (by entry_read; pointwise)

theorem read_10 : ∀ l, iblk m c 10 t (ix2 0 l) = m ((c : Thread nD τ).loc main_arg8) (ix1 l) := by
  intro l
  exact (by blk_ext [iblk, index_10 t] : iblk m c 10 t (ix2 0 l) = V m c main_v19 (ix2 0 l)).trans (by entry_read; pointwise)

theorem read_11 : ∀ l, iblk m c 11 t (ix2 0 l) = m ((c : Thread nD τ).loc main_arg11) (ix1 l) := by
  intro l
  exact (by blk_ext [iblk, index_11 t] : iblk m c 11 t (ix2 0 l) = V m c main_v20 (ix2 0 l)).trans (by entry_read; pointwise)

theorem read_13 : ∀ k l, iblk m c 13 t (ix2 k l) = m ((c : Thread nD τ).loc main_arg9) (ix2 k l) := by
  intro k l
  exact (by blk_ext [iblk, index_13 t] : iblk m c 13 t (ix2 k l) = V m c main_v21 (ix2 k l)).trans (by entry_read; pointwise)

theorem read_14 : ∀ k l, iblk m c 14 t (ix2 k l) = m ((c : Thread nD τ).loc main_arg10) (ix2 k l) := by
  intro k l
  exact (by blk_ext [iblk, index_14 t] : iblk m c 14 t (ix2 k l) = V m c main_v22 (ix2 k l)).trans (by entry_read; pointwise)

end Reads

end Cert.OutFFIdeal.Tile

end
-- ==== Proof.OutFFArray.lean ====
/- The array that the output projection's grid leaves behind, as a function of the arrays it starts from. -/
module

public import proofs.«01_k».proof.Proof.Gen.OutFFIdeal.Value
public import proofs.«01_k».proof.Proof.OutFFReads
public import Idealize.ShloMosaic.Lib.Pipeline.ValueKit
public import Idealize.ShloMosaic.Lib.Claim

@[expose] public section

set_option maxRecDepth 16384

noncomputable section

namespace Cert.OutFFIdeal.Tile

open Cert.OutFFIdeal Cert.OutFFIdeal.Gen Idealize.ShloMosaic Idealize.ShloMosaic.TcCoe Idealize.SL.Sem Cert.FFRow
open Idealize.ShloMosaic.Pipeline (Dat)

variable (m : (ℓ : Loc nD τ sig) → Buf (Elt Ideal) ℓ) (ρ : Dev nD → PrngReg)

/-- The result array as a function of the arrays that the region finds. -/
def G (c : Dev nD) (i : S8x8192x1024.Idx) : EReal :=
  tokens (m ((c : Thread nD τ).loc main_arg0))
    (mixed (m ((c : Thread nD τ).loc main_arg1)) (m ((c : Thread nD τ).loc main_arg2)) (m ((c : Thread nD τ).loc main_arg3))
      (fun k => V m c main_v8 (ix2 0 k)) (fun k l => V m c main_v17 (ix2 k l)))
    (m ((c : Thread nD τ).loc main_arg4)) (m ((c : Thread nD τ).loc main_arg7)) (m ((c : Thread nD τ).loc main_arg8)) (m ((c : Thread nD τ).loc main_arg11))
    (m ((c : Thread nD τ).loc main_arg9)) (m ((c : Thread nD τ).loc main_arg10)) (i 0) (i 1) (i 2)

/-- Grid point `t` writes the token rows of its block. -/
theorem point (c : Dev nD) (t : Fin cfg0.N) (y1 y2 : Fin 1024) (B : Fin 8) (N : Fin 8192)
    (hB' : (grid0.coords t 0).val = B.val) (hN' : (grid0.coords t 1).val * 1024 + y1.val = N.val) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 y1 y2)
      = G m c (ix3 B N y2) := by
  refine (tile_row _ _ _ _ _ _ _ _ _ _ _ _ _ _ _ y1 y2).trans ?_
  unfold G tokens mixed
  exact out_congr y2 (funext (read_0 m c t y1 B N hB' hN'))
    (proj_mix_congr (funext (read_1 m c t y1 B N hB' hN')) (funext (read_2 m c t y1 B N hB' hN')) (funext (read_3 m c t y1 B N hB' hN'))
      (funext (read_8 m c t)) (funext fun k => funext (read_12 m c t k)))
    (funext fun l => congrArg₂ (· * ·) (read_4 m c t B hB' l) (read_9 m c t l))
    (funext fun l => congrArg₂ (fun u v => u * (1 + v)) (read_10 m c t l) (read_5 m c t B hB' l))
    (funext (read_6 m c t B hB'))
    (funext fun l => congrArg₂ (· * ·) (read_7 m c t B hB' l) (read_11 m c t l))
    (funext fun k => funext (read_13 m c t k)) (funext fun k => funext (read_14 m c t k))

set_option maxHeartbeats 2000000 in
/-- The result array after the run. -/
theorem final (c : Dev nD) : (dats m 0 c).arrAt 15 cfg0.N = G m c := by
  refine (dats m 0 c).arrAt_eq_of_covers 15 _ (by decide +kernel) fun t hf y => ?_
  blk_simp
  rw [after0_15]
  idx_vars y
  obtain rfl : y0 = 0 := Subsingleton.elim _ _
  have hb : (grid0.coords t 0).val < 8 := (grid0.coords t 0).isLt
  have hn : (grid0.coords t 1).val < 8 := (grid0.coords t 1).isLt
  rw [point m c t y1 y2 ⟨(grid0.coords t 0).val, hb⟩ ⟨(grid0.coords t 1).val * 1024 + y1.val, by omega⟩ rfl rfl]
  refine congrArg (G m c) ?_
  symm
  blk_ext [index_15 t]

end Cert.OutFFIdeal.Tile

end
-- ==== Proof.FFLanes.lean ====
/- The two orders of the attention lanes. The attention output holds, per group of 128 lanes, one head of each of the two
   key heads; the layer's own order has the key head outermost. Projecting the lanes in the first order with the rows of
   the projection moved accordingly is projecting them in the second. -/
module

public import proofs.«01_k».proof.Proof.FFRow

@[expose] public section

noncomputable section

namespace Cert.FFRow

open Idealize.ShloMosaic

/-- The lane of the attention output that holds lane `k` of the layer's own head order. -/
def src (k : Fin 512) : Fin 512 := ⟨k.val / 64 % 4 * 128 + k.val / 256 * 64 + k.val % 64, by omega⟩

/-- The layer's own lane that lane `k` of the attention output holds. -/
def perm (k : Fin 512) : Fin 512 := ⟨k.val / 64 % 2 * 256 + k.val / 128 * 64 + k.val % 64, by omega⟩

theorem perm_src : ∀ k : Fin 512, perm (src k) = k := by decide +kernel
theorem src_perm : ∀ k : Fin 512, src (perm k) = k := by decide +kernel

/-- The attention lanes' move, as a bijection. -/
def swap : Fin 512 ≃ Fin 512 := ⟨src, perm, perm_src, src_perm⟩

/-- The move on all 1024 mixed lanes, and its inverse: the lanes past the attention stay. -/
def permAll (k : Fin 1024) : Fin 1024 := if h : k.val < 512 then ⟨(perm ⟨k.val, h⟩).val, by omega⟩ else k
def srcAll (k : Fin 1024) : Fin 1024 := if h : k.val < 512 then ⟨(src ⟨k.val, h⟩).val, by omega⟩ else k

theorem permAll_srcAll (k : Fin 1024) : permAll (srcAll k) = k := by
  by_cases h : k.val < 512
  · have h' : (src ⟨k.val, h⟩).val < 512 := (src ⟨k.val, h⟩).isLt
    simp only [srcAll, permAll, dif_pos h, dif_pos h', Fin.eta, perm_src]
  · simp only [srcAll, permAll, dif_neg h]

theorem srcAll_permAll (k : Fin 1024) : srcAll (permAll k) = k := by
  by_cases h : k.val < 512
  · have h' : (perm ⟨k.val, h⟩).val < 512 := (perm ⟨k.val, h⟩).isLt
    simp only [srcAll, permAll, dif_pos h, dif_pos h', Fin.eta, src_perm]
  · simp only [srcAll, permAll, dif_neg h]

def swapAll : Fin 1024 ≃ Fin 1024 := ⟨permAll, srcAll, srcAll_permAll, permAll_srcAll⟩

theorem rs_swap (c : EReal) (a : Fin 512 → EReal) : rs c (fun k => a (src k)) = rs c a := by
  unfold rs
  rw [← Equiv.sum_comp swap fun j => a j * a j]
  rfl

theorem mix_swap (a : Fin 512 → EReal) (s f : Fin 256 → EReal) (g : Fin 1024 → EReal) (k : Fin 1024) :
    mix a s f (fun k => g (permAll k)) k = mix (fun k => a (src k)) s f g (permAll k) := by
  by_cases h : k.val < 512
  · have h' : (permAll k).val < 512 := by simp only [permAll, dif_pos h]; exact (perm ⟨k.val, h⟩).isLt
    have e : src ⟨(permAll k).val, h'⟩ = ⟨k.val, h⟩ := by
      have e' : (⟨(permAll k).val, h'⟩ : Fin 512) = perm ⟨k.val, h⟩ := Fin.ext (by simp only [permAll, dif_pos h])
      rw [e', src_perm]
    unfold mix
    rw [dif_pos h, dif_pos h', rs_swap]
    show a _ * _ * _ = a (src _) * _ * _
    rw [e]
  · have e : permAll k = k := by simp only [permAll, dif_neg h]
    rw [e]
    unfold mix
    rw [dif_neg h, dif_neg h]
    simp only [e]

/-- Both orders give the same projection. -/
theorem proj_swap (a : Fin 512 → EReal) (s f : Fin 256 → EReal) (g : Fin 1024 → EReal) (w : Fin 1024 → Fin 1024 → EReal) :
    proj (mix a s f fun k => g (permAll k)) (fun k => w (permAll k)) = proj (mix (fun k => a (src k)) s f g) w := by
  funext l
  unfold proj
  rw [← Equiv.sum_comp swapAll fun k => mix (fun k => a (src k)) s f g k * w k l]
  exact Finset.sum_congr rfl fun k _ => congrArg (· * _) (mix_swap a s f g k)

theorem mixed_swap (a : (⟨3, ![8, 8192, 512]⟩ : Shape).Idx → EReal) (s f : (⟨3, ![8, 8192, 256]⟩ : Shape).Idx → EReal)
    (g : Fin 1024 → EReal) (w : Fin 1024 → Fin 1024 → EReal) :
    mixed a s f (fun k => g (permAll k)) (fun k => w (permAll k)) = mixed (fun i => a (ix3 (i 0) (i 1) (src (i 2)))) s f g w := by
  funext b n
  exact proj_swap _ _ _ _ _

end Cert.FFRow

end
-- ==== Proof.OutFFHost.lean ====
/- The gain and the projection that the host prepares for the output kernel: their first 512 rows are moved by the table of lanes. -/
module

public import proofs.«01_k».proof.Proof.Gen.OutFFIdeal.Value
public import proofs.«01_k».proof.Proof.FFLanes
public import Idealize.ShloMosaic.Lib.Pipeline.ValueKit
public import Idealize.ShloMosaic.Lib.Claim

@[expose] public section

set_option maxRecDepth 16384

noncomputable section

namespace Cert.OutFFIdeal.Tile

open Cert.OutFFIdeal Cert.OutFFIdeal.Gen Idealize.ShloMosaic Idealize.ShloMosaic.TcCoe Idealize.SL.Sem Cert.FFRow
open Idealize.ShloMosaic.Pipeline (Dat)

/-- The table's entries are the move of the attention lanes. -/
theorem table : ∀ k : Fin 512, min (lit0 k).toInt.toNat 511 = (perm k).val := by decide +kernel

/-- A vector taken at a column of indices. -/
theorem take_vec (x : S512.Idx → EReal) (i : S512x1.Idx → BitVec 32) (k : Fin 512) (v : BitVec 32)
    (hv : i (ix2 k 0) = v) : Host.gather gather_S512_S512x1_S512_n_0_n_n_0_1_1 x i (ix1 k) = x (ix1 ⟨min v.toInt.toNat 511, by omega⟩) := by
  subst hv
  unfold Host.gather
  refine congrArg x (funext fun a => Fin.ext ?_)
  obtain rfl : a = 0 := Subsingleton.elim _ _
  show GatherDims.start _ _ _ _ + GatherDims.batchCoord _ _ _ + GatherDims.offCoord _ _ _ = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ gather_S512_S512x1_S512_n_0_n_n_0_1_1.startIndexMap from List.mem_singleton.mpr rfl)]
  have e : gather_S512_S512x1_S512_n_0_n_n_0_1_1.siIdx (ix1 k) ⟨List.idxOf (0 : Fin 1) gather_S512_S512x1_S512_n_0_n_n_0_1_1.startIndexMap,
      List.idxOf_lt_length_iff.2 (List.mem_singleton.mpr rfl)⟩ = ix2 k 0 := by
    funext b
    refine Fin.ext ?_
    match b with
    | ⟨0, _⟩ => rfl
    | ⟨1, _⟩ => rfl
  rw [e]
  rfl

/-- The rows of a matrix taken at a column of indices. -/
theorem take_rows (x : S512x1024.Idx → EReal) (i : S512x1.Idx → BitVec 32) (k : Fin 512) (l : Fin 1024) (v : BitVec 32)
    (hv : i (ix2 k 0) = v) :
    Host.gather gather_S512x1024_S512x1_S512x1024_1_0_n_n_0_1_11024 x i (ix2 k l) = x (ix2 ⟨min v.toInt.toNat 511, by omega⟩ l) := by
  subst hv
  unfold Host.gather
  refine congrArg x (funext fun a => Fin.ext ?_)
  show GatherDims.start _ _ _ _ + GatherDims.batchCoord _ _ _ + GatherDims.offCoord _ _ _ = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ gather_S512x1024_S512x1_S512x1024_1_0_n_n_0_1_11024.startIndexMap from List.mem_singleton.mpr rfl)]
    have e : gather_S512x1024_S512x1_S512x1024_1_0_n_n_0_1_11024.siIdx (ix2 k l) ⟨List.idxOf (⟨0, by decide⟩ : Fin 2) gather_S512x1024_S512x1_S512x1024_1_0_n_n_0_1_11024.startIndexMap,
        List.idxOf_lt_length_iff.2 (List.mem_singleton.mpr rfl)⟩ = ix2 k 0 := by
      funext b
      refine Fin.ext ?_
      match b with
      | ⟨0, _⟩ => rfl
      | ⟨1, _⟩ => rfl
    rw [e]
    rfl
  | ⟨1, _⟩ =>
    unfold GatherDims.start
    rw [dif_neg (show ¬ (⟨1, by decide⟩ : Fin 2) ∈ gather_S512x1024_S512x1_S512x1024_1_0_n_n_0_1_11024.startIndexMap by decide)]
    unfold GatherDims.offCoord
    rw [dif_pos (show (⟨1, by decide⟩ : Fin 2) ∈ gather_S512x1024_S512x1_S512x1024_1_0_n_n_0_1_11024.sKept by decide)]
    exact (Nat.zero_add _).trans rfl

variable (m : (ℓ : Loc nD τ sig) → Buf (Elt Ideal) ℓ)

/-- The column of indices that the host takes: the table, since no entry counts as negative. -/
theorem column (k : Fin 512) :
    (broadcastInDim S512x1 ![0] bcast_S512_S512x1_0
      (select (constantI S512 1 0#1)
        (addi (fun i => lit0 (S512.rowMajor i)) (broadcastInDim S512 ![] bcast_S_S512 (constantI S_ 32 512#32)))
        fun i => lit0 (S512.rowMajor i)) : S512x1.Idx → BitVec 32) (ix2 k 0) = lit0 k := by
  pointwise
  exact congrArg lit0 (Fin.ext (Shape.rowMajor_val_one (ix1 k)))

theorem gain_entry (c : Dev nD) (k : Fin 1024) : V m c main_v8 (ix2 0 k) = m ((c : Thread nD τ).loc main_arg5) (ix1 (permAll k)) := by
  entry_read
  pointwise
  unfold permAll
  split
  · refine (take_vec _ _ _ _ (column _)).trans ?_
    pointwise
    refine congrArg _ (congrArg ix1 (Fin.ext ?_))
    exact table _
  · refine congrArg _ (congrArg ix1 (Fin.ext ?_))
    show 512 + (k.val - 512) = k.val
    omega

theorem proj_entry (c : Dev nD) (k l : Fin 1024) : V m c main_v17 (ix2 k l) = m ((c : Thread nD τ).loc main_arg6) (ix2 (permAll k) l) := by
  entry_read
  pointwise
  unfold permAll
  split
  · refine (take_rows _ _ _ _ _ (column _)).trans ?_
    pointwise
    refine congrArg _ (congrArg (ix2 · l) (Fin.ext ?_))
    exact table _
  · refine congrArg _ (congrArg (ix2 · l) (Fin.ext ?_))
    show 512 + (k.val - 512) = k.val
    omega

end Cert.OutFFIdeal.Tile

end
-- ==== Proof.OutFFRefRow.lean ====
/- The plain reference, read one token at a time: the result at `(b, n, l)` is the row function of the token's inputs. -/
module

public import proofs.«01_k».proof.Proof.FFLanes
public import proofs.«01_k».proof.Proof.Gen.OutFFRefIdeal.Read

@[expose] public section

set_option maxRecDepth 16384

noncomputable section

namespace Cert.OutFFRefIdeal.Row

open Idealize Idealize.ShloMosaic Cert.OutFFRefIdeal Cert.OutFFRefIdeal.Read Cert.FFRow

variable (x0 : S8x8192x1024.Idx → EReal) (x1 : S8x8192x512.Idx → EReal) (x2 x3 : S8x8192x256.Idx → EReal)
  (x4 : S2x16x1x6144.Idx → EReal) (x5 : S1024.Idx → EReal) (x6 : S1024x1024.Idx → EReal) (x7 x8 : S1024.Idx → EReal)
  (x9 : S1024x4096.Idx → EReal) (x10 : S4096x1024.Idx → EReal) (x11 : S1024.Idx → EReal)
  (b : Fin 8) (n : Fin 8192)

/-- The place of lane `k` among two groups of four heads of 64 lanes. -/
theorem split5 (b : Fin 8) (n : Fin 8192) (k : Fin 512) :
    ((b.val * 8192 + n.val) * 512 + k.val) / 4194304 = b.val ∧ ((b.val * 8192 + n.val) * 512 + k.val) / 512 % 8192 = n.val
      ∧ ((b.val * 8192 + n.val) * 512 + k.val) / 256 % 2 = k.val / 256 ∧ ((b.val * 8192 + n.val) * 512 + k.val) / 64 % 4 = k.val / 64 % 4
      ∧ ((b.val * 8192 + n.val) * 512 + k.val) % 64 = k.val % 64 := by omega

theorem join3 (b : Fin 8) (n : Fin 8192) (g p d : ℕ) (hg : g < 4) (hp : p < 2) (hd : d < 64) :
    ((((b.val * 8192 + n.val) * 4 + g) * 2 + p) * 64 + d) / 4194304 = b.val
      ∧ ((((b.val * 8192 + n.val) * 4 + g) * 2 + p) * 64 + d) / 512 % 8192 = n.val
      ∧ ((((b.val * 8192 + n.val) * 4 + g) * 2 + p) * 64 + d) % 512 = g * 128 + p * 64 + d := by omega

theorem attn_at (k : Fin 512) : val_main_v3 (F := Ideal) x1 (ix3 b n k) = x1 (ix3 b n (src k)) := by
  rw [val_main_v3_apply, val_main_v2_apply, val_main_v1_apply]
  show x1 _ = x1 _
  refine congrArg x1 (funext fun a => Fin.ext ?_)
  have hk := k.isLt
  obtain ⟨h0, h1, h2, h3, h4⟩ := split5 b n k
  match a with
  | ⟨0, _⟩ => simp only [ix3, src, h0, h1, h2, h3, h4]; exact (join3 b n _ _ _ (by omega) (by omega) (by omega)).1
  | ⟨1, _⟩ => simp only [ix3, src, h0, h1, h2, h3, h4]; exact (join3 b n _ _ _ (by omega) (by omega) (by omega)).2.1
  | ⟨2, _⟩ => simp only [ix3, src, h0, h1, h2, h3, h4]; exact (join3 b n _ _ _ (by omega) (by omega) (by omega)).2.2

theorem first_at (k : Fin 512) : val_main_v25 (F := Ideal) x1 x5 (ix3 b n k)
    = x1 (ix3 b n (src k)) * rs c512 (fun k => x1 (ix3 b n (src k))) * x5 (ix1 ⟨k.val, by omega⟩) := by
  have h := attn_at x1 b n
  generalize hy : val_main_v3 (F := Ideal) x1 = y at h
  unfold val_main_v25 val_main_v22 val_main_v21 val_main_v20 val_main_v19 val_main_v17 val_main_v15 val_main_v14 val_main_v13
  rw [hy]
  simp only [← h]
  unfold rs
  pointwise [val_main_v24, val_main_v23, val_main_v12, val_main_v16, val_main_v18, val_main_cst, val_main_cst_0, val_main_cst_1, c512, eps]

theorem second_at (k : Fin 256) : val_main_v39 (F := Ideal) x2 x5 (ix3 b n k)
    = x2 (ix3 b n k) * rs c256 (fun k => x2 (ix3 b n k)) * x5 (ix1 ⟨512 + k.val, by omega⟩) := by
  unfold rs
  pointwise [val_main_v39, val_main_v36, val_main_v35, val_main_v34, val_main_v33, val_main_v31, val_main_v29, val_main_v28, val_main_v27, val_main_v38, val_main_v37, val_main_v26, val_main_v30, val_main_v32, val_main_cst_2, val_main_cst_3, val_main_cst_4, c256, eps]

theorem third_at (k : Fin 256) : val_main_v53 (F := Ideal) x3 x5 (ix3 b n k)
    = x3 (ix3 b n k) * rs c256 (fun k => x3 (ix3 b n k)) * x5 (ix1 ⟨768 + k.val, by omega⟩) := by
  unfold rs
  pointwise [val_main_v53, val_main_v50, val_main_v49, val_main_v48, val_main_v47, val_main_v45, val_main_v43, val_main_v42, val_main_v41, val_main_v52, val_main_v51, val_main_v40, val_main_v44, val_main_v46, val_main_cst_5, val_main_cst_6, val_main_cst_7, c256, eps]

theorem mix_at (k : Fin 1024) : val_main_v54 (F := Ideal) x1 x2 x3 x5 (ix3 b n k)
    = mix (fun k => x1 (ix3 b n (src k))) (fun k => x2 (ix3 b n k)) (fun k => x3 (ix3 b n k)) (fun k => x5 (ix1 k)) k := by
  have h1 := first_at x1 x5 b n
  have h2 := second_at x2 x5 b n
  have h3 := third_at x3 x5 b n
  unfold val_main_v54 mix
  generalize val_main_v25 (F := Ideal) x1 x5 = y1 at h1
  generalize val_main_v39 (F := Ideal) x2 x5 = y2 at h2
  generalize val_main_v53 (F := Ideal) x3 x5 = y3 at h3
  pointwise
  split
  · rw [h1]
  · split
    · rw [h2]
      refine congrArg (fun i => _ * x5 (ix1 i)) (Fin.ext ?_)
      show 512 + (k.val - 512) = k.val
      omega
    · rw [h3]
      refine congrArg (fun i => _ * x5 (ix1 i)) (Fin.ext ?_)
      show 768 + (k.val - 512 - 256) = k.val
      omega

theorem proj_at (l : Fin 1024) : val_main_v55 (F := Ideal) x1 x2 x3 x5 x6 (ix3 b n l)
    = mixed (fun i => x1 (ix3 (i 0) (i 1) (src (i 2)))) x2 x3 (fun k => x5 (ix1 k)) (fun k l => x6 (ix2 k l)) b n l := by
  have h := mix_at x1 x2 x3 x5 b n
  unfold val_main_v55
  generalize val_main_v54 (F := Ideal) x1 x2 x3 x5 = y at h
  pointwise
  simp only [h]
  rfl

theorem step_at (l : Fin 1024) : val_main_v71 (F := Ideal) x0 x1 x2 x3 x4 x5 x6 x7 (ix3 b n l)
    = step (fun l => x0 (ix3 b n l)) (fun l => val_main_v55 (F := Ideal) x1 x2 x3 x5 x6 (ix3 b n l))
        (fun l => x4 (ix4 1 (wide b) 0 (lane 2 l)) * x7 (ix1 l)) l := by
  unfold val_main_v71 val_main_v70 val_main_v68 val_main_v65 val_main_v64 val_main_v63 val_main_v62 val_main_v60 val_main_v58 val_main_v57 val_main_v56
  generalize val_main_v55 (F := Ideal) x1 x2 x3 x5 x6 = y
  unfold step rs
  pointwise [val_main_v69, val_main_v67, val_main_v66, val_main_v8, val_main_v5, val_main_v4, val_main_v59, val_main_v61, val_main_cst_8, val_main_cst_9, val_main_cst_10, c1024, eps]
  exact congrArg _ (mul_left_comm _ _ _)

theorem hid_at (l : Fin 1024) : val_main_v90 (F := Ideal) x0 x1 x2 x3 x4 x5 x6 x7 x8 (ix3 b n l)
    = hid (fun l => val_main_v71 (F := Ideal) x0 x1 x2 x3 x4 x5 x6 x7 (ix3 b n l))
        (fun l => x8 (ix1 l) * (1 + x4 (ix4 1 (wide b) 0 (lane 4 l)))) (fun l => x4 (ix4 1 (wide b) 0 (lane 3 l))) l := by
  unfold val_main_v90 val_main_v88 val_main_v84 val_main_v81 val_main_v80 val_main_v79 val_main_v78 val_main_v76 val_main_v74 val_main_v73 val_main_v72
  generalize val_main_v71 (F := Ideal) x0 x1 x2 x3 x4 x5 x6 x7 = y
  unfold hid rs
  pointwise [val_main_v89, val_main_v9, val_main_v87, val_main_v86, val_main_v85, val_main_v10, val_main_v83, val_main_v82, val_main_v5, val_main_v4, val_main_v75, val_main_v77, val_main_cst_11, val_main_cst_12, val_main_cst_13, val_main_cst_14, c1024, eps]
  exact congrArg (· + _) (mul_assoc _ _ _)

theorem ff_at (l : Fin 1024) : val_main_v94 (F := Ideal) x0 x1 x2 x3 x4 x5 x6 x7 x8 x9 x10 (ix3 b n l)
    = ff (fun l => val_main_v90 (F := Ideal) x0 x1 x2 x3 x4 x5 x6 x7 x8 (ix3 b n l)) (fun k l => x9 (ix2 k l)) (fun k l => x10 (ix2 k l)) l := by
  unfold val_main_v94 val_main_v93 val_main_v92 val_main_v91
  generalize val_main_v90 (F := Ideal) x0 x1 x2 x3 x4 x5 x6 x7 x8 = y
  unfold ff act proj
  pointwise [val_main_call0_v0, val_main_call0_cst]

theorem last_at (l : Fin 1024) : val_main_v110 (F := Ideal) x0 x1 x2 x3 x4 x5 x6 x7 x8 x9 x10 x11 (ix3 b n l)
    = step (fun l => val_main_v71 (F := Ideal) x0 x1 x2 x3 x4 x5 x6 x7 (ix3 b n l))
        (fun l => val_main_v94 (F := Ideal) x0 x1 x2 x3 x4 x5 x6 x7 x8 x9 x10 (ix3 b n l))
        (fun l => x4 (ix4 1 (wide b) 0 (lane 5 l)) * x11 (ix1 l)) l := by
  unfold val_main_v110 val_main_v109 val_main_v107 val_main_v104 val_main_v103 val_main_v102 val_main_v101 val_main_v99 val_main_v97 val_main_v96 val_main_v95
  generalize val_main_v94 (F := Ideal) x0 x1 x2 x3 x4 x5 x6 x7 x8 x9 x10 = y
  generalize val_main_v71 (F := Ideal) x0 x1 x2 x3 x4 x5 x6 x7 = z
  unfold step rs
  pointwise [val_main_v108, val_main_v106, val_main_v105, val_main_v11, val_main_v5, val_main_v4, val_main_v98, val_main_v100, val_main_cst_15, val_main_cst_16, val_main_cst_17, c1024, eps]
  exact congrArg _ (mul_left_comm _ _ _)

/-- The reference's result: every token's row from its own mixed parts. -/
theorem result_at (l : Fin 1024) : val_main_v110 (F := Ideal) x0 x1 x2 x3 x4 x5 x6 x7 x8 x9 x10 x11 (ix3 b n l)
    = tokens x0 (mixed (fun i => x1 (ix3 (i 0) (i 1) (src (i 2)))) x2 x3 (fun k => x5 (ix1 k)) (fun k l => x6 (ix2 k l)))
        x4 x7 x8 x11 x9 x10 b n l := by
  rw [last_at]
  unfold tokens out
  rw [← funext (proj_at x1 x2 x3 x5 x6 b n), ← funext (step_at x0 x1 x2 x3 x4 x5 x6 x7 b n), ← funext (hid_at x0 x1 x2 x3 x4 x5 x6 x7 x8 b n),
    ← funext (ff_at x0 x1 x2 x3 x4 x5 x6 x7 x8 x9 x10 b n)]

end Cert.OutFFRefIdeal.Row

end
-- ==== Proof.OutFFClaim.lean ====
/- The output projection and feed-forward call: its claims. -/
module

public import proofs.«01_k».proof.Defs
public import proofs.«01_k».proof.Proof.Gen.OutFF
public import proofs.«01_k».proof.Proof.Gen.OutFF.Frame
public import proofs.«01_k».proof.Proof.Gen.OutFFIdeal
public import proofs.«01_k».proof.Proof.Gen.OutFFIdeal.Frame
public import proofs.«01_k».proof.Proof.Gen.OutFFIdeal.Value
public import proofs.«01_k».proof.Proof.Gen.OutFFRefIdeal
public import proofs.«01_k».proof.Proof.Gen.OutFFRefIdeal.Run
public import proofs.«01_k».proof.Proof.OutFFArray
public import proofs.«01_k».proof.Proof.OutFFHost
public import proofs.«01_k».proof.Proof.OutFFRefRow
public import Idealize.ShloMosaic.Lib.Claim

@[expose] public section

set_option maxRecDepth 16384

noncomputable section

namespace Cert.Proof.OutFF

open Idealize.ShloMosaic Idealize.SL.Sem Cert.FFRow

theorem quiescent : Cert.quiescent_OutFF (hOutFF := Cert.OutFF.Gen.facts) := fun m g _ => Cert.OutFF.Gen.frame m g

theorem quiescentIdeal : Cert.quiescent_OutFFIdeal (hOutFFIdeal := Cert.OutFFIdeal.Gen.facts) := fun m g _ => Cert.OutFFIdeal.Gen.frame m g

theorem quiescentRef : Cert.quiescent_OutFFRefIdeal (hOutFFRefIdeal := Cert.OutFFRefIdeal.Gen.facts) := fun m g _ =>
  (θ_run Cert.OutFFRefIdeal.defs _ _).mono (fun r h => ⟨fun c => (h c).2, sem_eq_zero_of_no_sems (by decide) r.2⟩)
    (Cert.OutFFRefIdeal.Value.run (F := Ideal) m g)

/-- The reference's run, its result as a function of its arguments. -/
theorem run_ref (m : (ℓ : Loc Cert.OutFFRefIdeal.nD Cert.OutFFRefIdeal.τ Cert.OutFFRefIdeal.sig) → Buf (Elt Ideal) ℓ) (g : Dev Cert.OutFFRefIdeal.nD → PrngReg) :
    θ_run (Cert.OutFFRefIdeal.defs (F := Ideal)) (onTc (τ := Cert.OutFFRefIdeal.τ) (Cert.OutFFRefIdeal.main (F := Ideal))) ⟨m, fun _ => 0, g⟩ fun r => ∀ c : Dev Cert.OutFFRefIdeal.nD,
      r.2.mem ((c.tc : Thread Cert.OutFFRefIdeal.nD Cert.OutFFRefIdeal.τ).loc Cert.OutFFRefIdeal.main_v110) = Cert.OutFFRefIdeal.Read.val_main_v110 (F := Ideal)
      (m ((c.tc : Thread Cert.OutFFRefIdeal.nD Cert.OutFFRefIdeal.τ).loc Cert.OutFFRefIdeal.main_arg0))
      (m ((c.tc : Thread Cert.OutFFRefIdeal.nD Cert.OutFFRefIdeal.τ).loc Cert.OutFFRefIdeal.main_arg1))
      (m ((c.tc : Thread Cert.OutFFRefIdeal.nD Cert.OutFFRefIdeal.τ).loc Cert.OutFFRefIdeal.main_arg2))
      (m ((c.tc : Thread Cert.OutFFRefIdeal.nD Cert.OutFFRefIdeal.τ).loc Cert.OutFFRefIdeal.main_arg3))
      (m ((c.tc : Thread Cert.OutFFRefIdeal.nD Cert.OutFFRefIdeal.τ).loc Cert.OutFFRefIdeal.main_arg4))
      (m ((c.tc : Thread Cert.OutFFRefIdeal.nD Cert.OutFFRefIdeal.τ).loc Cert.OutFFRefIdeal.main_arg5))
      (m ((c.tc : Thread Cert.OutFFRefIdeal.nD Cert.OutFFRefIdeal.τ).loc Cert.OutFFRefIdeal.main_arg6))
      (m ((c.tc : Thread Cert.OutFFRefIdeal.nD Cert.OutFFRefIdeal.τ).loc Cert.OutFFRefIdeal.main_arg7))
      (m ((c.tc : Thread Cert.OutFFRefIdeal.nD Cert.OutFFRefIdeal.τ).loc Cert.OutFFRefIdeal.main_arg8))
      (m ((c.tc : Thread Cert.OutFFRefIdeal.nD Cert.OutFFRefIdeal.τ).loc Cert.OutFFRefIdeal.main_arg9))
      (m ((c.tc : Thread Cert.OutFFRefIdeal.nD Cert.OutFFRefIdeal.τ).loc Cert.OutFFRefIdeal.main_arg10))
      (m ((c.tc : Thread Cert.OutFFRefIdeal.nD Cert.OutFFRefIdeal.τ).loc Cert.OutFFRefIdeal.main_arg11))
      ∧ r.2.mem ((c.tc : Thread Cert.OutFFRefIdeal.nD Cert.OutFFRefIdeal.τ).loc Cert.OutFFRefIdeal.main_arg0) = m ((c.tc : Thread Cert.OutFFRefIdeal.nD Cert.OutFFRefIdeal.τ).loc Cert.OutFFRefIdeal.main_arg0)
      ∧ r.2.mem ((c.tc : Thread Cert.OutFFRefIdeal.nD Cert.OutFFRefIdeal.τ).loc Cert.OutFFRefIdeal.main_arg1) = m ((c.tc : Thread Cert.OutFFRefIdeal.nD Cert.OutFFRefIdeal.τ).loc Cert.OutFFRefIdeal.main_arg1)
      ∧ r.2.mem ((c.tc : Thread Cert.OutFFRefIdeal.nD Cert.OutFFRefIdeal.τ).loc Cert.OutFFRefIdeal.main_arg2) = m ((c.tc : Thread Cert.OutFFRefIdeal.nD Cert.OutFFRefIdeal.τ).loc Cert.OutFFRefIdeal.main_arg2)
      ∧ r.2.mem ((c.tc : Thread Cert.OutFFRefIdeal.nD Cert.OutFFRefIdeal.τ).loc Cert.OutFFRefIdeal.main_arg3) = m ((c.tc : Thread Cert.OutFFRefIdeal.nD Cert.OutFFRefIdeal.τ).loc Cert.OutFFRefIdeal.main_arg3)
      ∧ r.2.mem ((c.tc : Thread Cert.OutFFRefIdeal.nD Cert.OutFFRefIdeal.τ).loc Cert.OutFFRefIdeal.main_arg4) = m ((c.tc : Thread Cert.OutFFRefIdeal.nD Cert.OutFFRefIdeal.τ).loc Cert.OutFFRefIdeal.main_arg4)
      ∧ r.2.mem ((c.tc : Thread Cert.OutFFRefIdeal.nD Cert.OutFFRefIdeal.τ).loc Cert.OutFFRefIdeal.main_arg5) = m ((c.tc : Thread Cert.OutFFRefIdeal.nD Cert.OutFFRefIdeal.τ).loc Cert.OutFFRefIdeal.main_arg5)
      ∧ r.2.mem ((c.tc : Thread Cert.OutFFRefIdeal.nD Cert.OutFFRefIdeal.τ).loc Cert.OutFFRefIdeal.main_arg6) = m ((c.tc : Thread Cert.OutFFRefIdeal.nD Cert.OutFFRefIdeal.τ).loc Cert.OutFFRefIdeal.main_arg6)
      ∧ r.2.mem ((c.tc : Thread Cert.OutFFRefIdeal.nD Cert.OutFFRefIdeal.τ).loc Cert.OutFFRefIdeal.main_arg7) = m ((c.tc : Thread Cert.OutFFRefIdeal.nD Cert.OutFFRefIdeal.τ).loc Cert.OutFFRefIdeal.main_arg7)
      ∧ r.2.mem ((c.tc : Thread Cert.OutFFRefIdeal.nD Cert.OutFFRefIdeal.τ).loc Cert.OutFFRefIdeal.main_arg8) = m ((c.tc : Thread Cert.OutFFRefIdeal.nD Cert.OutFFRefIdeal.τ).loc Cert.OutFFRefIdeal.main_arg8)
      ∧ r.2.mem ((c.tc : Thread Cert.OutFFRefIdeal.nD Cert.OutFFRefIdeal.τ).loc Cert.OutFFRefIdeal.main_arg9) = m ((c.tc : Thread Cert.OutFFRefIdeal.nD Cert.OutFFRefIdeal.τ).loc Cert.OutFFRefIdeal.main_arg9)
      ∧ r.2.mem ((c.tc : Thread Cert.OutFFRefIdeal.nD Cert.OutFFRefIdeal.τ).loc Cert.OutFFRefIdeal.main_arg10) = m ((c.tc : Thread Cert.OutFFRefIdeal.nD Cert.OutFFRefIdeal.τ).loc Cert.OutFFRefIdeal.main_arg10)
      ∧ r.2.mem ((c.tc : Thread Cert.OutFFRefIdeal.nD Cert.OutFFRefIdeal.τ).loc Cert.OutFFRefIdeal.main_arg11) = m ((c.tc : Thread Cert.OutFFRefIdeal.nD Cert.OutFFRefIdeal.τ).loc Cert.OutFFRefIdeal.main_arg11) :=
  (θ_run Cert.OutFFRefIdeal.defs _ _).mono (fun _ h c =>
      ⟨(h c).1.trans (Cert.OutFFRefIdeal.Read.val_main_v110_eq (F := Ideal) (StableHlo.launchContents m c)), (h c).2⟩)
    (Cert.OutFFRefIdeal.Value.run (F := Ideal) m g)

/-- The array that the kernel leaves is the reference's result at the same arguments. -/
theorem value (m : (ℓ : Loc Cert.OutFFIdeal.nD Cert.OutFFIdeal.τ Cert.OutFFIdeal.sig) → Buf (Elt Ideal) ℓ) (c : Dev Cert.OutFFIdeal.nD) :
    Cert.OutFFIdeal.Tile.G m c = Cert.OutFFRefIdeal.Read.val_main_v110 (F := Ideal)
      (m ((c.tc : Thread Cert.OutFFIdeal.nD Cert.OutFFIdeal.τ).loc Cert.OutFFIdeal.main_arg0))
      (m ((c.tc : Thread Cert.OutFFIdeal.nD Cert.OutFFIdeal.τ).loc Cert.OutFFIdeal.main_arg1))
      (m ((c.tc : Thread Cert.OutFFIdeal.nD Cert.OutFFIdeal.τ).loc Cert.OutFFIdeal.main_arg2))
      (m ((c.tc : Thread Cert.OutFFIdeal.nD Cert.OutFFIdeal.τ).loc Cert.OutFFIdeal.main_arg3))
      (m ((c.tc : Thread Cert.OutFFIdeal.nD Cert.OutFFIdeal.τ).loc Cert.OutFFIdeal.main_arg4))
      (m ((c.tc : Thread Cert.OutFFIdeal.nD Cert.OutFFIdeal.τ).loc Cert.OutFFIdeal.main_arg5))
      (m ((c.tc : Thread Cert.OutFFIdeal.nD Cert.OutFFIdeal.τ).loc Cert.OutFFIdeal.main_arg6))
      (m ((c.tc : Thread Cert.OutFFIdeal.nD Cert.OutFFIdeal.τ).loc Cert.OutFFIdeal.main_arg7))
      (m ((c.tc : Thread Cert.OutFFIdeal.nD Cert.OutFFIdeal.τ).loc Cert.OutFFIdeal.main_arg8))
      (m ((c.tc : Thread Cert.OutFFIdeal.nD Cert.OutFFIdeal.τ).loc Cert.OutFFIdeal.main_arg9))
      (m ((c.tc : Thread Cert.OutFFIdeal.nD Cert.OutFFIdeal.τ).loc Cert.OutFFIdeal.main_arg10))
      (m ((c.tc : Thread Cert.OutFFIdeal.nD Cert.OutFFIdeal.τ).loc Cert.OutFFIdeal.main_arg11)) := by
  funext i
  obtain ⟨b, n, l, rfl⟩ : ∃ (b : Fin 8) (n : Fin 8192) (l : Fin 1024), i = ix3 b n l := ⟨i 0, i 1, i 2, eq_ix3 i⟩
  refine Eq.trans ?_ (Cert.OutFFRefIdeal.Row.result_at _ _ _ _ _ _ _ _ _ _ _ _ b n l).symm
  unfold Cert.OutFFIdeal.Tile.G
  refine congrArg (fun y => tokens _ y _ _ _ _ _ _ b n l) ?_
  exact (congrArg₂ (mixed _ _ _) (funext (Cert.OutFFIdeal.Tile.gain_entry m c))
    (funext fun k => funext (Cert.OutFFIdeal.Tile.proj_entry m c k))).trans
    (mixed_swap _ _ _ (fun k => m ((c.tc : Thread Cert.OutFFIdeal.nD Cert.OutFFIdeal.τ).loc Cert.OutFFIdeal.main_arg5) (ix1 k))
      (fun k l => m ((c.tc : Thread Cert.OutFFIdeal.nD Cert.OutFFIdeal.τ).loc Cert.OutFFIdeal.main_arg6) (ix2 k l)))

theorem algebraic : Cert.algebraic_OutFFIdeal_OutFFRefIdeal (hOutFFIdeal := Cert.OutFFIdeal.Gen.facts) (hOutFFRefIdeal := Cert.OutFFRefIdeal.Gen.facts) := by
  pair_intro
  · run_from Cert.OutFFIdeal.Value.run_blocks m g
  · run_from run_ref m' g'
    exact ((Cert.OutFFIdeal.Tile.final m c).trans (value m c)).symm

end Cert.Proof.OutFF

end
-- ==== Proof.lean ====
module

public import proofs.«01_k».proof.Defs
public import proofs.«01_k».proof.Proof.AttnClaim
public import proofs.«01_k».proof.Proof.OutFFClaim

@[expose] public section

noncomputable section

namespace Cert.Proof

theorem claim : Cert.Claim :=
  ⟨Cert.Attn.Gen.facts, Cert.AttnIdeal.Gen.facts, Cert.AttnRefIdeal.Gen.facts, Cert.OutFF.Gen.facts, Cert.OutFFIdeal.Gen.facts,
    Cert.OutFFRefIdeal.Gen.facts, Cert.Pre_finite.Gen.facts,
    Attn.quiescent, Attn.quiescentIdeal, Attn.quiescentIdealPre, Attn.quiescentRef, Attn.quiescentRefPre,
    OutFF.quiescent, OutFF.quiescentIdeal, OutFF.quiescentRef, Attn.preserves, Attn.algebraic, trivial, OutFF.algebraic⟩

end Cert.Proof

end
